-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x1024 : Shape := ⟨2, ![2, 1024]⟩
abbrev S8192x128 : Shape := ⟨2, ![8192, 128]⟩
abbrev S4x8x2x128 : Shape := ⟨4, ![4, 8, 2, 128]⟩
abbrev S8x3 : Shape := ⟨2, ![8, 3]⟩
abbrev S_ : Shape := ⟨0, ![]⟩
abbrev S128 : Shape := ⟨1, ![128]⟩
abbrev S1x128 : Shape := ⟨2, ![1, 128]⟩
abbrev S1x8192 : Shape := ⟨2, ![1, 8192]⟩
abbrev S3x8192 : Shape := ⟨2, ![3, 8192]⟩
abbrev S3x128 : Shape := ⟨2, ![3, 128]⟩
abbrev S1 : Shape := ⟨1, ![1]⟩
abbrev S1x1 : Shape := ⟨2, ![1, 1]⟩
abbrev S1x1x128 : Shape := ⟨3, ![1, 1, 128]⟩
abbrev S1x1x1x128 : Shape := ⟨4, ![1, 1, 1, 128]⟩
abbrev S1x1x2x128 : Shape := ⟨4, ![1, 1, 2, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .local _ .vmem, ⟨0, _⟩ => ⟨S8192x128, .f32⟩
  | .local _ .vmem, ⟨1, _⟩ => ⟨S8192x128, .f32⟩
  | .local _ .vmem, ⟨2, _⟩ => ⟨S2x1024, .f32⟩
  | .local _ .vmem, ⟨3, _⟩ => ⟨S4x8x2x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_56 : BitVec 32 := 1#32
  let v127 : BitVec 32 := Scalar.addi v2 c1_i32_56
  let c4_i32_57 : BitVec 32 := 4#32
  let v128 : BitVec 32 := Scalar.remsi v127 c4_i32_57
  let c1_i32_59 : BitVec 32 := 1#32
  let v129 : BitVec 32 := Scalar.muli v128 c1_i32_59
  let v130 : BitVec 32 := Scalar.addi c0_i32_60 v129
  v130.toNat
def k0_dev2 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_61 : BitVec 32 := 2#32
  let v131 : BitVec 32 := Scalar.addi v2 c2_i32_61
  let c4_i32_62 : BitVec 32 := 4#32
  let v132 : BitVec 32 := Scalar.remsi v131 c4_i32_62
  let c1_i32_64 : BitVec 32 := 1#32
  let v133 : BitVec 32 := Scalar.muli v132 c1_i32_64
  let v134 : BitVec 32 := Scalar.addi c0_i32_65 v133
  v134.toNat
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_66 : BitVec 32 := 3#32
  let v135 : BitVec 32 := Scalar.addi v2 c3_i32_66
  let c4_i32_67 : BitVec 32 := 4#32
  let v136 : BitVec 32 := Scalar.remsi v135 c4_i32_67
  let c1_i32_69 : BitVec 32 := 1#32
  let v137 : BitVec 32 := Scalar.muli v136 c1_i32_69
  let v138 : BitVec 32 := Scalar.addi c0_i32_70 v137
  v138.toNat
def k0_off1 (i : grid0.Coords) (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v138 : Index := Scalar.indexCast v2
  let arg0 : BitVec 32 := BitVec.ofNat 32 (i 0).val
  let v139 : Index := Scalar.indexCast arg0
  let c1 : Index := 1#32
  let c0_57 : Index := 0#32
  ![v138.toNat, v139.toNat, 1, 0]
def k0_off2 (i : grid0.Coords) (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v128 : Index := Scalar.indexCast v2
  let arg0 : BitVec 32 := BitVec.ofNat 32 (i 0).val
  let v129 : Index := Scalar.indexCast arg0
  let c1 : Index := 1#32
  let c0_56 : Index := 0#32
  ![v128.toNat, v129.toNat, 1, 0]
def k0_off3 (i : grid0.Coords) (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v86 : Index := Scalar.indexCast v2
  let arg0 : BitVec 32 := BitVec.ofNat 32 (i 0).val
  let v87 : Index := Scalar.indexCast arg0
  let c0_23 : Index := 0#32
  let c0_24 : Index := 0#32
  ![v86.toNat, v87.toNat, 0, 0]
def k0_off4 (i : grid0.Coords) : Fin 2 → Nat :=
  let arg0 : BitVec 32 := BitVec.ofNat 32 (i 0).val
  let c0_i32_30 : BitVec 32 := 0#32
  ![arg0.toNat, 0]
def k0_off5 (i : grid0.Coords) (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c0_i32_33 : BitVec 32 := 0#32
  let c0_i32_34 : BitVec 32 := 0#32
  ![v2.toNat, arg0.toNat, 0, 0]
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v94 : BitVec 32 := Scalar.addi v2 c1_i32_27
  let c4_i32_28 : BitVec 32 := 4#32
  let v95 : BitVec 32 := Scalar.remsi v94 c4_i32_28
  let c1_i32_31 : BitVec 32 := 1#32
  let v96 : BitVec 32 := Scalar.muli v95 c1_i32_31
  let v97 : BitVec 32 := Scalar.addi c0_i32_32 v96
  v97.toNat
def k0_off6 (i : grid0.Coords) : Fin 2 → Nat :=
  let arg0 : BitVec 32 := BitVec.ofNat 32 (i 0).val
  let c1_i32_39 : BitVec 32 := 1#32
  ![arg0.toNat, 1]
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v104 : BitVec 32 := Scalar.addi v2 c2_i32
  let c4_i32_37 : BitVec 32 := 4#32
  let v105 : BitVec 32 := Scalar.remsi v104 c4_i32_37
  let c1_i32_40 : BitVec 32 := 1#32
  let v106 : BitVec 32 := Scalar.muli v105 c1_i32_40
  let v107 : BitVec 32 := Scalar.addi c0_i32_41 v106
  v107.toNat
def k0_off7 (i : grid0.Coords) : Fin 2 → Nat :=
  let arg0 : BitVec 32 := BitVec.ofNat 32 (i 0).val
  let c2_i32_48 : BitVec 32 := 2#32
  ![arg0.toNat, 2]
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v114 : BitVec 32 := Scalar.addi v2 c3_i32
  let c4_i32_46 : BitVec 32 := 4#32
  let v115 : BitVec 32 := Scalar.remsi v114 c4_i32_46
  let c1_i32_49 : BitVec 32 := 1#32
  let v116 : BitVec 32 := Scalar.muli v115 c1_i32_49
  let v117 : BitVec 32 := Scalar.addi c0_i32_50 v116
  v117.toNat
def k0_cond5 (i : grid0.Coords) : BitVec 1 :=
  let arg0 : BitVec 32 := BitVec.ofNat 32 (i 0).val
  let c7_i32 : BitVec 32 := 7#32
  let v124 : BitVec 1 := Scalar.cmpi .eq arg0 c7_i32
  let v125 : BitVec 32 := Scalar.extui v124
  let c0_i32_55 : BitVec 32 := 0#32
  let v126 : BitVec 1 := Scalar.cmpi .ne v125 c0_i32_55
  v126

def k0_off8 (d0 : Dev nD) (c1_i32_56 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v127 : BitVec 32 := Scalar.subi v2 c1_i32_56
  let c4_i32_57 : BitVec 32 := 4#32
  let v128 : BitVec 32 := Scalar.addi v127 c4_i32_57
  let c4_i32_58 : BitVec 32 := 4#32
  let v129 : BitVec 32 := Scalar.remsi v128 c4_i32_58
  let c0_i32_65 : BitVec 32 := 0#32
  let c0_i32_66 : BitVec 32 := 0#32
  let c0_i32_67 : BitVec 32 := 0#32
  ![v129.toNat, 0, 0, 0]
def k0_off9 (d0 : Dev nD) (c1_i32_134 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v166 : BitVec 32 := Scalar.subi v2 c1_i32_134
  let c4_i32_135 : BitVec 32 := 4#32
  let v167 : BitVec 32 := Scalar.addi v166 c4_i32_135
  let c4_i32_136 : BitVec 32 := 4#32
  let v168 : BitVec 32 := Scalar.remsi v167 c4_i32_136
  let c1_i32_143 : BitVec 32 := 1#32
  let c0_i32_144 : BitVec 32 := 0#32
  let c0_i32_145 : BitVec 32 := 0#32
  ![v168.toNat, 1, 0, 0]
def k0_off10 (d0 : Dev nD) (c1_i32_212 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v205 : BitVec 32 := Scalar.subi v2 c1_i32_212
  let c4_i32_213 : BitVec 32 := 4#32
  let v206 : BitVec 32 := Scalar.addi v205 c4_i32_213
  let c4_i32_214 : BitVec 32 := 4#32
  let v207 : BitVec 32 := Scalar.remsi v206 c4_i32_214
  let c2_i32_221 : BitVec 32 := 2#32
  let c0_i32_222 : BitVec 32 := 0#32
  let c0_i32_223 : BitVec 32 := 0#32
  ![v207.toNat, 2, 0, 0]
def k0_off11 (d0 : Dev nD) (c1_i32_290 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v244 : BitVec 32 := Scalar.subi v2 c1_i32_290
  let c4_i32_291 : BitVec 32 := 4#32
  let v245 : BitVec 32 := Scalar.addi v244 c4_i32_291
  let c4_i32_292 : BitVec 32 := 4#32
  let v246 : BitVec 32 := Scalar.remsi v245 c4_i32_292
  let c3_i32_299 : BitVec 32 := 3#32
  let c0_i32_300 : BitVec 32 := 0#32
  let c0_i32_301 : BitVec 32 := 0#32
  ![v246.toNat, 3, 0, 0]
def k0_off12 (d0 : Dev nD) (c1_i32_368 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v283 : BitVec 32 := Scalar.subi v2 c1_i32_368
  let c4_i32_369 : BitVec 32 := 4#32
  let v284 : BitVec 32 := Scalar.addi v283 c4_i32_369
  let c4_i32_370 : BitVec 32 := 4#32
  let v285 : BitVec 32 := Scalar.remsi v284 c4_i32_370
  let c4_i32_377 : BitVec 32 := 4#32
  let c0_i32_378 : BitVec 32 := 0#32
  let c0_i32_379 : BitVec 32 := 0#32
  ![v285.toNat, 4, 0, 0]
def k0_off13 (d0 : Dev nD) (c1_i32_446 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v322 : BitVec 32 := Scalar.subi v2 c1_i32_446
  let c4_i32_447 : BitVec 32 := 4#32
  let v323 : BitVec 32 := Scalar.addi v322 c4_i32_447
  let c4_i32_448 : BitVec 32 := 4#32
  let v324 : BitVec 32 := Scalar.remsi v323 c4_i32_448
  let c5_i32_454 : BitVec 32 := 5#32
  let c0_i32_455 : BitVec 32 := 0#32
  let c0_i32_456 : BitVec 32 := 0#32
  ![v324.toNat, 5, 0, 0]
def k0_off14 (d0 : Dev nD) (c1_i32_523 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v361 : BitVec 32 := Scalar.subi v2 c1_i32_523
  let c4_i32_524 : BitVec 32 := 4#32
  let v362 : BitVec 32 := Scalar.addi v361 c4_i32_524
  let c4_i32_525 : BitVec 32 := 4#32
  let v363 : BitVec 32 := Scalar.remsi v362 c4_i32_525
  let c6_i32_531 : BitVec 32 := 6#32
  let c0_i32_532 : BitVec 32 := 0#32
  let c0_i32_533 : BitVec 32 := 0#32
  ![v363.toNat, 6, 0, 0]
def k0_off15 (d0 : Dev nD) (c1_i32_600 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v400 : BitVec 32 := Scalar.subi v2 c1_i32_600
  let c4_i32_601 : BitVec 32 := 4#32
  let v401 : BitVec 32 := Scalar.addi v400 c4_i32_601
  let c4_i32_602 : BitVec 32 := 4#32
  let v402 : BitVec 32 := Scalar.remsi v401 c4_i32_602
  let c7_i32_609 : BitVec 32 := 7#32
  let c0_i32_610 : BitVec 32 := 0#32
  let c0_i32_611 : BitVec 32 := 0#32
  ![v402.toNat, 7, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.KernelIdeal.Proto.lean ====
/-
The protocol of the four-device column argmax, generic in the float instance.

Every device `c` keeps a gather buffer of slots `(s, g)`: `s` a device, `g` a chunk of 128 columns; a slot holds the
chunk's column maxima of device `s` (row 0) and the rows they were found at (row 1).

* Barrier semaphore of device `c` (one round, three units): the device `peer c o` signals it once, `o = 0, 1, 2`, and
  hands over the eight slots `(c, g)` of its OWN gather buffer, contents unknown; `c` waits for the three units at chunk
  0, before its first copy.
* Receive semaphore `(g, o)` of device `c` (one round, one copy): the device `peer c (rev o)` copies its slot onto the
  same slot of `c` and hands over that slot at its contents `GA`.
* Send semaphore `(g, o)` of device `c` (one round, one copy): the same copy, seen by its source, gives back a third of
  the slot `(c, g)` at its contents `GA`.

All forty-eight copy semaphores are waited for at the last chunk, when nothing is owed any more.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds.Family
public import Idealize.ShloMosaic.Lib.Ring
public import Idealize.ShloMosaic.Lib.Ring.Trips
public import Idealize.ShloMosaic.Lib.ValueIdxCore
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F]

/-! ## The resource algebra: the pipeline's copy and the protocol's, whose duties are numbered by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The mesh -/

set_option backward.proofsInPublic true in
/-- The device `o + 1` places after `c`. -/
def peer (c : Dev nD) (o : Fin 3) : Dev nD := ⟨(c.val + o.val + 1) % 4, Nat.mod_lt _ (by decide)⟩

theorem peer_rev (c : Dev nD) (o : Fin 3) : peer (peer c o) o.rev = c := by revert c o; decide
theorem peer_rev' (c : Dev nD) (o : Fin 3) : peer (peer c o.rev) o = c := by revert c o; decide
theorem peer_ne (c : Dev nD) (o : Fin 3) : peer c o ≠ c := by revert c o; decide
theorem peer_inj (c : Dev nD) : Function.Injective (peer c) := by revert c; decide

/-! ## The semaphores -/

/-- The semaphores of one device: the barrier, then receive (`true`) and send (`false`) by chunk and offset. -/
abbrev Cell : Type := Option (Bool × Fin 8 × Fin 3)

/-- The runtime's barrier semaphore. -/
abbrev barS : Sem sig := (SemArray.scalar (sig.barrier 0 rfl) : Sems sig S_).sem

set_option backward.proofsInPublic true in
def sendS (g : Fin 8) (o : Fin 3) : DmaSem sig := ⟨3 + 3 * g.val + o.val, by have := g.2; have := o.2; show _ < 51; omega⟩
set_option backward.proofsInPublic true in
def recvS (g : Fin 8) (o : Fin 3) : DmaSem sig := ⟨27 + 3 * g.val + o.val, by have := g.2; have := o.2; show _ < 51; omega⟩

/-- The semaphore a cell names. -/
def csem : Cell → SemLoc sig
  | none => .reg barS
  | some (true, g, o) => .dma (recvS g o)
  | some (false, g, o) => .dma (sendS g o)

/-- The cell a semaphore is, if any. -/
def decode : SemLoc sig → Option Cell
  | .reg _ => some none
  | .dma q =>
    if 27 ≤ q.val then some (some (true, Fin.ofNat 8 ((q.val - 27) / 3), Fin.ofNat 3 ((q.val - 27) % 3)))
    else if 3 ≤ q.val then some (some (false, Fin.ofNat 8 ((q.val - 3) / 3), Fin.ofNat 3 ((q.val - 3) % 3)))
    else none

set_option maxRecDepth 4000 in
theorem decode_csem : ∀ k, decode (csem k) = some k := by decide

theorem csem_injective : Function.Injective csem := fun a b h =>
  Option.some.inj ((decode_csem a).symm.trans ((congrArg decode h).trans (decode_csem b)))

/-- A cell of a device, as the machine names it. -/
abbrev kcell (ck : Dev nD × Cell) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## The slots and their contents -/

/-- The gather buffer of device `c`. -/
abbrev gLoc (c : Dev nD) : Loc nD τ sig := (c : Thread nD τ).loc cc0_scratch0

/-- The indices of slot `(s, g)`. -/
def slotSet (s : Dev nD) (g : Fin 8) : Finset S4x8x2x128.Idx :=
  Finset.univ.filter fun j => (j 0).val = s.val ∧ (j 1).val = g.val

theorem mem_slotSet {s : Dev nD} {g : Fin 8} {j : S4x8x2x128.Idx} : j ∈ slotSet s g ↔ (j 0).val = s.val ∧ (j 1).val = g.val := by
  unfold slotSet; rw [Finset.mem_filter]; exact ⟨fun h => h.2, fun h => ⟨Finset.mem_univ _, h⟩⟩

/-- Slot `(s, g)` of device `c`'s gather buffer, share `q`, at contents `f`. -/
def slotPts (c s : Dev nD) (g : Fin 8) (q : PosShare TreeShare) (f : Buf (Elt F) (gLoc c)) : sProp 𝕄 :=
  gLoc c ↦[slotSet s g]{q} f

/-- The grid point of chunk `g`. -/
def tOf (g : Fin 8) : Fin cfg0.N := ⟨g.val, by rw [show cfg0.N = 8 from N_0]; exact g.2⟩

/-- Device `c`'s block of the argument at grid point `t`: 8192 rows, 128 columns. -/
def xs (c : Dev nD) (t : Fin cfg0.N) : Vec F S8192x128 .f32 :=
  (win0_0.blk t).view.read (Elt F) (m ((c : Thread nD τ).loc main_arg0))

/-- The device's place on the mesh axis, as the kernel computes it. -/
abbrev devW (c : Dev nD) : BitVec 32 := Scalar.remsi (Scalar.divsi (Dev.word c) 1#32) 4#32

/-- The row numbers along the second axis, as the kernel makes them. -/
abbrev iotaRow : IVec S1x8192 32 := iota .tc S1x8192 32 [1] iota_S1x8192_d1_w32

/-- The bit the kernel branches on: no column attains its maximum twice. -/
def uq (x : Vec F S8192x128 .f32) : BitVec 1 :=
  Scalar.cmpf .ole (k0_pay82 (k0_pay77 x) iotaRow k0_pay78) (Scalar.ofBits .f32 0x3FC00000#32)

/-- The column maxima of a block. -/
def valRow (x : Vec F S8192x128 .f32) : FVec F S1x1x1x128 .f32 := k0_pay85 (k0_pay76 x)

/-- The rows of the maxima of a block: by the one-hot product where it is exact, else the least row at the maximum. -/
def idxRow (w : BitVec 32) (x : Vec F S8192x128 .f32) : FVec F S1x1x1x128 .f32 :=
  if uq x = 1#1 then k0_pay84 (k0_pay81 w (k0_pay77 x) iotaRow k0_pay78) else k0_pay83 w (k0_pay75 x) (k0_pay76 x)

/-- The contents of every slot of every gather buffer once it is filled: the maxima in row 0, their rows in row 1. -/
def GA : S4x8x2x128.Idx → F .f32 := fun j =>
  if (j 2).val = 0 then valRow (xs m (j 0) (tOf (j 1))) (ix4 0 0 0 (j 3))
  else idxRow (devW (j 0)) (xs m (j 0) (tOf (j 1))) (ix4 0 0 0 (j 3))

/-- `GA` as contents of device `c`'s gather buffer. -/
abbrev GAb (c : Dev nD) : Buf (Elt F) (gLoc c) := GA m

/-! ## The schedule -/

/-- One copy's credit: that of a slot. -/
def slotM (s : Dev nD) (g : Fin 8) (h : ∀ a, ![s.val, g.val, 0, 0] a + S1x1x2x128.size a ≤ S4x8x2x128.size a) :
    Memref sig .tc .vmem S1x1x2x128 .f32 :=
  (Memref.whole cc0_scratch0).slice (Rect.unit (s := S4x8x2x128) ![s.val, g.val, 0, 0] S1x1x2x128.size h) (fun _ => rfl)

theorem slot_inb (s : Dev nD) (g : Fin 8) : ∀ a, ![s.val, g.val, 0, 0] a + S1x1x2x128.size a ≤ S4x8x2x128.size a := by
  revert s g; decide

/-- What one copy adds to its two semaphores. -/
def N : ℕ := (slotM 0 0 (slot_inb 0 0)).view.dmaCredit

theorem N_pos : 0 < N := View.dmaCredit_pos _ (by decide)

/-- What `peer c o`'s signal hands `c`: the slots `c` copies onto there. -/
def barPay (c : Dev nD) (o : Fin 3) : sProp 𝕄 :=
  bigSep Finset.univ fun g : Fin 8 => iprop(∃ f, slotPts (peer c o) c g fullShare f)

/-- What the copy from `peer c (rev o)` hands `c`. -/
def recvPay (c : Dev nD) (g : Fin 8) (o : Fin 3) : sProp 𝕄 := slotPts c (peer c o.rev) g fullShare (GAb m c)

/-- What a copy gives back to its source. -/
def sendPay (c : Dev nD) (g : Fin 8) (o : Fin 3) : sProp 𝕄 := slotPts c c g (Ring.shares3 fullShare o) (GAb m c)

omit [FloatOps F] in
instance slotPts_storable (c s : Dev nD) (g : Fin 8) (q : PosShare TreeShare) (f) : BI.Storable (upEmb : UEmb _ 𝕄) (slotPts (F := F) c s g q f) := by
  unfold slotPts; infer_instance
omit [FloatOps F] in
instance barPay_storable (c : Dev nD) (o : Fin 3) : BI.Storable (upEmb : UEmb _ 𝕄) (barPay (F := F) c o) := by
  unfold barPay; infer_instance
instance recvPay_storable (c : Dev nD) (g : Fin 8) (o : Fin 3) : BI.Storable (upEmb : UEmb _ 𝕄) (recvPay m c g o) := by
  unfold recvPay; infer_instance
instance sendPay_storable (c : Dev nD) (g : Fin 8) (o : Fin 3) : BI.Storable (upEmb : UEmb _ 𝕄) (sendPay m c g o) := by
  unfold sendPay; infer_instance

/-- The duties of a cell in its one round. -/
def cellDuties : Option Cell → Finset (Fin 3)
  | some none => Finset.univ
  | some (some _) => {0}
  | none => ∅
/-- The units of a cell's duty. -/
def cellAmount : Option Cell → ℕ
  | some (some _) => N
  | _ => 1
/-- The payload of a cell's duty. -/
def cellPay (c : Dev nD) (d : Fin 3) : Option Cell → sProp 𝕄
  | some none => barPay c d
  | some (some (true, g, o)) => recvPay m c g o
  | some (some (false, g, o)) => sendPay m c g o
  | none => iprop(emp)

instance cellPay_storable (c : Dev nD) (d : Fin 3) (k : Option Cell) : BI.Storable (upEmb : UEmb _ 𝕄) (cellPay m c d k) := by
  match k with
  | some none => unfold cellPay; infer_instance
  | some (some (true, g, o)) => unfold cellPay; infer_instance
  | some (some (false, g, o)) => unfold cellPay; infer_instance
  | none => unfold cellPay; infer_instance

/-- The protocol: one round, round 0. -/
def Rd : Rounds.Schedule (GSem nD τ sig) (Fin 3) 𝕄 where
  duties g r := if r = 0 ∧ g.1.2 = .tc then cellDuties (decode g.2) else ∅
  unitless _ := False
  amount g _ _ := cellAmount (decode g.2)
  payload g _ d := cellPay m g.1.1 d (decode g.2)
  amount_pos g _ _ _ := by
    show 0 < cellAmount (decode g.2)
    unfold cellAmount; split
    · exact N_pos
    · exact Nat.one_pos

instance Rd_payload_storable (g : GSem nD τ sig) (r : ℕ) (d : Fin 3) : BI.Storable (upEmb : UEmb _ 𝕄) ((Rd m).payload g r d) := by
  show BI.Storable upEmb (cellPay m g.1.1 d (decode g.2)); infer_instance

theorem duties_cell (c : Dev nD) (k : Cell) : (Rd m).duties (kcell (c, k)) 0 = cellDuties (some k) := by
  show (if (0 : ℕ) = 0 ∧ (kcell (c, k)).1.2 = .tc then cellDuties (decode (csem k)) else ∅) = _
  rw [if_pos ⟨rfl, rfl⟩, decode_csem]
theorem duties_later (g : GSem nD τ sig) : ∀ r, 1 ≤ r → (Rd m).duties g r = ∅ :=
  fun r hr => if_neg fun h => by omega
theorem amount_cell (c : Dev nD) (k : Cell) (d : Fin 3) : (Rd m).amount (kcell (c, k)) 0 d = cellAmount (some k) := by
  show cellAmount (decode (csem k)) = _; rw [decode_csem]
theorem payload_cell (c : Dev nD) (k : Cell) (d : Fin 3) : (Rd m).payload (kcell (c, k)) 0 d = cellPay m c d (some k) := by
  show cellPay m c d (decode (csem k)) = _; rw [decode_csem]
theorem expect_bar (c : Dev nD) : (Rd m).expect (kcell (c, none)) 0 = 3 := by
  unfold Schedule.expect Schedule.amountOf
  rw [duties_cell, Finset.sum_congr rfl fun d _ => amount_cell m c none d]; rfl
theorem expect_dma (c : Dev nD) (p : Bool × Fin 8 × Fin 3) : (Rd m).expect (kcell (c, some p)) 0 = N := by
  unfold Schedule.expect Schedule.amountOf
  rw [duties_cell, Finset.sum_congr rfl fun d _ => amount_cell m c (some p) d]; exact Finset.sum_singleton _ _
theorem rest_bar (c : Dev nD) :
    bigSep ((Rd m).duties (kcell (c, none)) 0 \ ∅) (fun d => (Rd m).payload (kcell (c, none)) 0 d) = bigSep Finset.univ fun o => barPay c o := by
  rw [Finset.sdiff_empty, duties_cell]
  exact bigSep_congr fun d _ => payload_cell m c none d
theorem rest_dma (c : Dev nD) (p : Bool × Fin 8 × Fin 3) :
    bigSep ((Rd m).duties (kcell (c, some p)) 0 \ ∅) (fun d => (Rd m).payload (kcell (c, some p)) 0 d) = cellPay m c 0 (some (some p)) := by
  rw [Finset.sdiff_empty, duties_cell]
  exact (bigSep_singleton).trans (payload_cell m c (some p) 0)

/-! ## What is owed, and the levels -/

/-- The tally of device `c`'s signal to `peer c o`. -/
abbrev barT (c : Dev nD) (o : Fin 3) : CellTallies nD τ sig Unit := tallyAt (kcell (peer c o, none)) () 1
/-- The tally of device `c`'s copy to `peer c o` at chunk `g`. -/
abbrev sendT (c : Dev nD) (g : Fin 8) (o : Fin 3) : CellTallies nD τ sig Unit := tallyAt (kcell (peer c o, some (true, g, o))) () N

/-- Owed to the receivers when `n` chunks are left. -/
def owedR (c : Dev nD) : ℕ → CellTallies nD τ sig Unit
  | 0 => 0
  | n + 1 => owedR c n + sendT c (Fin.ofNat 8 (7 - n)) 2 + sendT c (Fin.ofNat 8 (7 - n)) 1 + sendT c (Fin.ofNat 8 (7 - n)) 0

/-- Owed at launch: every copy and the three signals. -/
def O₀ (c : Dev nD) : CellTallies nD τ sig Unit := owedR c 8 + barT c 2 + barT c 1 + barT c 0

/-- Owed at grid point `t`. -/
def owedN (c : Dev nD) : ℕ → CellTallies nD τ sig Unit
  | 0 => O₀ c
  | t + 1 => owedR c (7 - t)

def L (g : GSem nD τ sig) : Finset Unit := if g.1.2 = .tc then {()} else ∅
/-- The level of a cell: barrier 1, receive 2, the others 0. -/
def cellLv : Option Cell → ℕ
  | some none => 1
  | some (some (true, _, _)) => 2
  | _ => 0
def lv (g : GSem nD τ sig) (_ : Unit) : ℕ := cellLv (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cell) (u : Unit) : lv (kcell (c, k)) u = cellLv (some k) := by
  show cellLv (decode (csem k)) = _; rw [decode_csem]

theorem owedR_pos {c : Dev nD} {n : ℕ} {g : GSem nD τ sig} {u : Unit} (h : 0 < owedR c n g u) :
    ∃ d p, g = kcell (d, some (true, p)) := by
  induction n with
  | zero => exact absurd h (Nat.lt_irrefl 0)
  | succ n ih =>
    unfold owedR at h
    simp only [Pi.add_apply, Finsupp.add_apply] at h
    by_cases h0 : 0 < owedR c n g u
    · exact ih h0
    by_cases h1 : 0 < sendT c (Fin.ofNat 8 (7 - n)) 2 g u
    · exact ⟨_, _, (Pipeline.tallyAt_pos h1).1⟩
    by_cases h2 : 0 < sendT c (Fin.ofNat 8 (7 - n)) 1 g u
    · exact ⟨_, _, (Pipeline.tallyAt_pos h2).1⟩
    by_cases h3 : 0 < sendT c (Fin.ofNat 8 (7 - n)) 0 g u
    · exact ⟨_, _, (Pipeline.tallyAt_pos h3).1⟩
    omega

theorem O₀_pos {c : Dev nD} {g : GSem nD τ sig} {u : Unit} (h : 0 < O₀ c g u) :
    (∃ d p, g = kcell (d, some (true, p))) ∨ ∃ d, g = kcell (d, none) := by
  unfold O₀ at h
  simp only [Pi.add_apply, Finsupp.add_apply] at h
  by_cases h0 : 0 < owedR c 8 g u
  · exact .inl (owedR_pos h0)
  by_cases h1 : 0 < barT c 2 g u
  · exact .inr ⟨_, (Pipeline.tallyAt_pos h1).1⟩
  by_cases h2 : 0 < barT c 1 g u
  · exact .inr ⟨_, (Pipeline.tallyAt_pos h2).1⟩
  by_cases h3 : 0 < barT c 0 g u
  · exact .inr ⟨_, (Pipeline.tallyAt_pos h3).1⟩
  omega

theorem owedN_pos {c : Dev nD} {t : ℕ} {g : GSem nD τ sig} {u : Unit} (h : 0 < owedN c t g u) :
    (∃ d p, g = kcell (d, some (true, p))) ∨ ∃ d, g = kcell (d, none) := by
  cases t with
  | zero => exact O₀_pos h
  | succ t => exact .inl (owedR_pos h)

omit [FloatOps F] in
/-- A staging semaphore may be waited for whatever the point owes. -/
theorem mayWait_stage (c : Dev nD) (q : DmaSem sig) (hq : decode (.dma q) = none) (t : ℕ) :
    (levAts L lv : sProp 𝕄) ⊢ MayWait (c : Thread nD τ) (.dma q) () (owedN c t) :=
  MayOwe.of_cut (L := L) (lev := lv) 0 (fun p hp => by rw [Finset.mem_singleton.mp hp, L_tc]; exact Finset.mem_singleton_self _)
    (fun g u hg => by
      rcases owedN_pos hg with ⟨d, p, rfl⟩ | ⟨d, rfl⟩ <;> exact Finset.mem_singleton_self _)
    (fun p hp => by rw [Finset.mem_singleton.mp hp]; show cellLv (decode (.dma q)) ≤ 0; rw [hq]; exact Nat.le_refl _)
    (fun g u hg => by
      rcases owedN_pos hg with ⟨d, p, rfl⟩ | ⟨d, rfl⟩ <;> rw [lv_cell] <;> (simp only [cellLv]; omega))

omit [FloatOps F] in
/-- At the barrier wait a device owes copies only: their receive cells lie above its barrier cell. -/
theorem mayWait_bar (c : Dev nD) (n : ℕ) :
    (levAts L lv : sProp 𝕄) ⊢ MayWait (c : Thread nD τ) (.reg barS) () (owedR c n) :=
  MayOwe.of_cut (L := L) (lev := lv) 1 (fun p hp => by rw [Finset.mem_singleton.mp hp, L_tc]; exact Finset.mem_singleton_self _)
    (fun g u hg => by obtain ⟨d, p, rfl⟩ := owedR_pos hg; exact Finset.mem_singleton_self _)
    (fun p hp => by rw [Finset.mem_singleton.mp hp]; exact Nat.le_refl _)
    (fun g u hg => by obtain ⟨d, p, rfl⟩ := owedR_pos hg; rw [lv_cell]; simp only [cellLv]; omega)

end Cert.KernelIdeal.Run

end
-- ==== Proof.KernelIdeal.State.lean ====
/-
What a device holds between the operations of the kernel, and the kernel's remote operations as steps from one such
state to the next: the three barrier signals, the barrier wait, a copy to a peer, a wait for a copy.
-/
module

public import proofs.«01_k».proof.Proof.KernelIdeal.Proto

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Two separating conjunctions over finite sets exchange. -/
theorem bigSep_exchange {I J : Type} [DecidableEq I] (s : Finset I) (t : Finset J) (Φ : I → J → sProp 𝕄) :
    (bigSep s fun i => bigSep t fun j => Φ i j) = bigSep t fun j => bigSep s fun i => Φ i j := by
  induction s using Finset.induction_on with
  | empty => simp only [bigSep_empty]; exact (bigSep_emp_const t).symm
  | insert a s ha ih =>
    rw [bigSep_insert ha, ih]
    refine Eq.trans (bigSep_sep t _ _).symm (bigSep_congr fun j _ => ?_)
    rw [bigSep_insert ha]

/-! ## The states -/

/-- Every cell's invariant and that it has reached round 0, on every device. -/
def records (K : Dev nD × Cell → ℕ) : sProp 𝕄 :=
  bigSep Finset.univ fun ck : Dev nD × Cell => iprop(cellInv ER (Rd m) (K ck) (kcell ck) ∗ reached ER (kcell ck) 0)

instance records_persistent (K : Dev nD × Cell → ℕ) : BI.Persistent (records m K) := by unfold records; infer_instance

theorem rec_inv (K : Dev nD × Cell → ℕ) (ck : Dev nD × Cell) : records m K ⊢ cellInv ER (Rd m) (K ck) (kcell ck) := by
  unfold records
  refine (bigSep_elim (Finset.mem_univ ck)).trans (show (_ : sProp 𝕄) ⊢ _ from ?_)
  iintro ⟨H, -⟩; iexact H
theorem rec_reached (K : Dev nD × Cell → ℕ) (ck : Dev nD × Cell) : records m K ⊢ reached ER (kcell ck) 0 := by
  unfold records
  refine (bigSep_elim (Finset.mem_univ ck)).trans (show (_ : sProp 𝕄) ⊢ _ from ?_)
  iintro ⟨-, H⟩; iexact H

/-- Device `c` owes `O`, whatever it has waited for. -/
def owesE (c : Dev nD) (O : CellTallies nD τ sig Unit) : sProp 𝕄 := iprop(∃ W, owes (c : Thread nD τ) O W)

/-- The two tokens of the copy of chunk `g` to `peer c o`: its send duty and its receive duty. -/
def copyToks (c : Dev nD) (g : Fin 8) (o : Fin 3) : sProp 𝕄 :=
  iprop(dutyTok ER (kcell (c, some (false, g, o))) 0 0 ∗ dutyTok ER (kcell (peer c o, some (true, g, o))) 0 0)

/-- What the copy of chunk `g` to `peer c o` needs of the peer: the slot there, and the tokens. -/
def copyNeeds (c : Dev nD) (g : Fin 8) (o : Fin 3) : sProp 𝕄 :=
  iprop((∃ f, slotPts (peer c o) c g fullShare f) ∗ copyToks c g o)

/-- The credit the copy of chunk `g` to `peer c o` leaves its source. -/
def sendCred (c : Dev nD) (g : Fin 8) (o : Fin 3) : sProp 𝕄 := cred (tallyAt (kcell (c, some (false, g, o))) () N)

/-- The copies' side at grid point `t`: chunks below `t` are under way, the others still to be sent. -/
def copies (c : Dev nD) (t : ℕ) : sProp 𝕄 :=
  bigSep Finset.univ fun g : Fin 8 =>
    if g.val < t then bigSep Finset.univ fun o : Fin 3 => sendCred (F := F) c g o else bigSep Finset.univ fun o : Fin 3 => copyNeeds (F := F) c g o

/-- The device's own slots still to be filled at grid point `t`. -/
def ownSlots (c : Dev nD) (t : ℕ) : sProp 𝕄 :=
  bigSep Finset.univ fun g : Fin 8 => if g.val < t then iprop(emp) else iprop(∃ f, slotPts (F := F) c c g fullShare f)

/-- The receive credits of device `c`. -/
def recvCreds (c : Dev nD) : sProp 𝕄 :=
  bigSep Finset.univ fun p : Fin 8 × Fin 3 => cred (tallyAt (kcell (c, some (true, p))) () N)

/-- Device `c` stands at round 0 of each of its copy cells. -/
def poss (c : Dev nD) : sProp 𝕄 :=
  bigSep Finset.univ fun p : Bool × Fin 8 × Fin 3 => atPos ER (kcell (c, some p)) 0 ∅ 0

/-- What does not change from the barrier to the last chunk. -/
def steady (c : Dev nD) : sProp 𝕄 :=
  iprop(recvCreds c ∗ poss c ∗ atPos ER (kcell (c, none)) 1 ∅ 0)

/-- Before the barrier wait: the tokens of all copies, the barrier's credit, round 0 of the barrier. -/
def waiting (c : Dev nD) : sProp 𝕄 :=
  iprop(recvCreds c ∗ poss c ∗ atPos ER (kcell (c, none)) 0 ∅ 0 ∗ cred (tallyAt (kcell (c, none)) () 3)
    ∗ bigSep Finset.univ fun g : Fin 8 => bigSep Finset.univ fun o : Fin 3 => copyToks (F := F) c g o)

/-! ## The signals -/

theorem step_signal (K : Dev nD × Cell → ℕ) (c : Dev nD) (o : Fin 3) (n : Dev nD) (hn : n = peer c o) (O : CellTallies nD τ sig Unit)
    {α : Type} {k : PUnit → Prog (TpuEff nD τ sig (Elt F) Λ₀ .tc) α} {Q : α → sProp 𝕄} :
    iprop(records m K ∗ owesE c (O + barT c o) ∗ dutyTok ER (kcell (peer c o, none)) 0 o.rev ∗ barPay (peer c o) o.rev)
      ⊢ iprop((owesE c O -∗ WP c (k ⟨⟩) Q) -∗ WP c (.op (.semSignal (n : Thread nD τ) barS (1#32 : BitVec 32).toInt) k) Q) := by
  subst hn
  unfold owesE
  iintro ⟨#HK, ⟨%W, HO⟩, Ht, Hp⟩ Hk
  iapply (Rounds.wp_signal 𝒱₀ ER (Rd m) (c : Thread nD τ) none (dst := (peer c o : Thread nD τ)) (κ := K (peer c o, none))
      (r := 0) (d := o.rev) (k' := 1) (by rw [show ((peer c o : Thread nD τ), SemLoc.reg barS) = kcell (peer c o, none) from rfl, duties_cell]; exact Finset.mem_univ _)
      (amount_cell m (peer c o) none o.rev) () O rfl) $$ [HO Ht Hp]
  · isplitr; · iapply (rec_inv m K (peer c o, none)); iexact HK
    isplitl [HO]; · iexact HO
    isplitl [Ht]; · iexact Ht
    isplitl [Hp]
    · rw [show (Rd m).payload ((peer c o : Thread nD τ), SemLoc.reg barS) 0 o.rev = barPay (peer c o) o.rev from payload_cell m (peer c o) none o.rev]
      iexact Hp
    · iapply (rec_reached m K (peer c o, none)); iexact HK
  iintro HO
  iapply Hk
  iexists W; iexact HO

/-! ## The barrier wait -/

theorem step_barrier (K : Dev nD × Cell → ℕ) (c : Dev nD) (n : ℕ)
    {α : Type} {k : PUnit → Prog (TpuEff nD τ sig (Elt F) Λ₀ .tc) α} {Q : α → sProp 𝕄} :
    iprop(records m K ∗ levAts L lv ∗ owesE c (owedR c n) ∗ waiting c)
      ⊢ iprop(((owesE c (owedR c n) ∗ steady c ∗ copies c 0) -∗ WP c (k ⟨⟩) Q) -∗ WP c (.op (.semWait barS (3#32 : BitVec 32).toInt) k) Q) := by
  unfold owesE waiting
  iintro ⟨#HK, #Hlev, ⟨%W, HO⟩, Hcr, Hpos, Hat, Hc, Htoks⟩ Hk
  iapply (Rounds.wp_wait_rest_token 𝒱₀ ER (Rd m) (c : Thread nD τ) none (κ := K (c, none)) (sm := csem none)
      (wpE_semWait_eq 𝒱₀ (c : Thread nD τ) none Set.univ) (Set.mem_univ _) () (O := owedR c n) (W := W) (R := 0) (m := 0) (T := ∅)
      ((Nat.zero_add _).trans (expect_bar m c).symm)) $$ [Hc HO Hat]
  · isplitr; · iapply (rec_inv m K (c, none)); iexact HK
    isplitl [Hc]; · iexact Hc
    isplitl [HO]; · iexact HO
    isplitr; · iapply (mayWait_bar c n); iexact Hlev
    iexact Hat
  iintro ⟨HO, Hat, -, Hpay⟩
  ihave Hp := (Entails.of_eq (rest_bar m c)) $$ Hpay
  iapply Hk
  isplitl [HO]; · iexists _; iexact HO
  isplitl [Hcr Hpos Hat]
  · unfold steady
    isplitl [Hcr]; · iexact Hcr
    isplitl [Hpos]; · iexact Hpos
    iexact Hat
  · unfold barPay copies
    ihave Hp := (Entails.of_eq (bigSep_exchange _ _ _)) $$ Hp
    have e : (bigSep Finset.univ fun g : Fin 8 => if g.val < 0 then bigSep Finset.univ fun o : Fin 3 => sendCred (F := F) c g o
          else bigSep Finset.univ fun o : Fin 3 => copyNeeds (F := F) c g o)
        = iprop((bigSep Finset.univ fun g : Fin 8 => bigSep Finset.univ fun o : Fin 3 => iprop(∃ f, slotPts (F := F) (peer c o) c g fullShare f))
          ∗ bigSep Finset.univ fun g : Fin 8 => bigSep Finset.univ fun o : Fin 3 => copyToks (F := F) c g o) := by
      rw [← bigSep_sep']
      refine bigSep_congr fun g _ => ?_
      rw [if_neg (Nat.not_lt_zero _), ← bigSep_sep']
      rfl
    rw [e]
    isplitl [Hp]; · iexact Hp
    iexact Htoks

/-! ## A copy -/

/-- The block of one slot, as the kernel slices the gather buffer. -/
abbrev slM (off : Fin 4 → ℕ) (hinb : ∀ a, off a + S1x1x2x128.size a ≤ S4x8x2x128.size a) : Memref sig .tc .vmem S1x1x2x128 .f32 :=
  (Memref.whole cc0_scratch0).slice (Rect.unit (s := S4x8x2x128) off S1x1x2x128.size hinb) (fun _ => rfl)

theorem mem_slotRect (s : Dev nD) (g : Fin 8) (hinb) (j : S4x8x2x128.Idx) :
    j ∈ (Rect.unit (s := S4x8x2x128) ![s.val, g.val, 0, 0] S1x1x2x128.size hinb).set ↔ j ∈ slotSet s g := by
  rw [Rect.mem_set_unit, mem_slotSet]
  constructor
  · intro h
    have h0 := h 0; have h1 := h 1
    change s.val ≤ (j 0).val ∧ (j 0).val < s.val + 1 at h0
    change g.val ≤ (j 1).val ∧ (j 1).val < g.val + 1 at h1
    omega
  · rintro ⟨h0, h1⟩ a
    match a with
    | ⟨0, _⟩ => show s.val ≤ (j 0).val ∧ (j 0).val < s.val + 1; omega
    | ⟨1, _⟩ => show g.val ≤ (j 1).val ∧ (j 1).val < g.val + 1; omega
    | ⟨2, _⟩ => exact ⟨Nat.zero_le _, (Nat.zero_add 2).symm ▸ (j 2).isLt⟩
    | ⟨3, _⟩ => exact ⟨Nat.zero_le _, (Nat.zero_add 128).symm ▸ (j 3).isLt⟩

theorem slM_set (s : Dev nD) (g : Fin 8) (hinb) : (slM ![s.val, g.val, 0, 0] hinb).view.set = slotSet s g :=
  (View.set_slice_whole (cc0_scratch0 : Ref sig .tc) _).trans (Finset.ext fun j => mem_slotRect s g hinb j)

omit [FloatOps F] in
/-- A slot written with a slot's contents holds them. -/
theorem slM_landed (s : Dev nD) (g : Fin 8) (hinb) (d : Dev nD) (fs fd : Buf (Elt F) (gLoc d)) :
    ((gLoc d) ↦[slotSet s g]{fullShare} ((slM ![s.val, g.val, 0, 0] hinb).view.write (Elt F) fd
      ((slM ![s.val, g.val, 0, 0] hinb).view.read (Elt F) fs) Finset.univ) : sProp 𝕄) = slotPts d s g fullShare fs := by
  refine pointsTo_congr fun i hi => ?_
  rw [View.write_read_eq_piecewise]
  refine Finset.piecewise_eq_of_mem _ _ _ ?_
  rw [View.setOn_univ, slM_set]; exact hi

/-! ## The waits of the last chunk -/

/-- The place of a copy's wait in the kernel's order: receive before send, offsets inside chunks. -/
def widx (p : Bool × Fin 8 × Fin 3) : ℕ := 2 * (3 * p.2.1.val + p.2.2.val) + if p.1 then 0 else 1

theorem widx_inj : Function.Injective widx := by
  rintro ⟨b, g, o⟩ ⟨b', g', o'⟩ h
  have := o.2; have := o'.2
  unfold widx at h
  cases b <;> cases b' <;> simp only [if_true, if_false, Bool.false_eq_true] at h
  · have h1 : g = g' := Fin.ext (by omega)
    have h2 : o = o' := Fin.ext (by omega)
    rw [h1, h2]
  · omega
  · omega
  · have h1 : g = g' := Fin.ext (by omega)
    have h2 : o = o' := Fin.ext (by omega)
    rw [h1, h2]

/-- A copy cell when `n` waits are done: waited for, its payload is at hand; else its credit is. -/
def waitAt (c : Dev nD) (n : ℕ) (p : Bool × Fin 8 × Fin 3) : sProp 𝕄 :=
  if widx p < n then iprop(cellPay m c 0 (some (some p)) ∗ atPos ER (kcell (c, some p)) 1 ∅ 0)
  else iprop(cred (tallyAt (kcell (c, some p)) () N) ∗ atPos ER (kcell (c, some p)) 0 ∅ 0)

/-- The state of the last chunk when `n` waits are done: nothing is owed. -/
def waits (K : Dev nD × Cell → ℕ) (c : Dev nD) (n : ℕ) : sProp 𝕄 :=
  iprop(records m K ∗ owesE c 0 ∗ bigSep Finset.univ fun p => waitAt m c n p)

theorem step_wait (K : Dev nD × Cell → ℕ) (c : Dev nD) (p : Bool × Fin 8 × Fin 3) (n : ℕ) (hn : widx p = n)
    (sem : DmaSem sig) (hs : SemLoc.dma sem = csem (some p))
    {src dst : Memref sig .tc .vmem S1x1x2x128 .f32} (hN : dst.view.dmaCredit = N) {hsrc : src.view.WordExact} {hdst : dst.view.WordExact}
    {α : Type} {k : PUnit → Prog (TpuEff nD τ sig (Elt F) Λ₀ .tc) α} {Q : α → sProp 𝕄} {R : sProp 𝕄}
    (h : iprop(waits m K c (n + 1) ∗ R) ⊢ WP c (k ⟨⟩) Q) :
    iprop(waits m K c n ∗ R) ⊢ WP c (.op (.waitDma2 sem src dst hsrc hdst) k) Q := by
  subst hn
  have h1 : waitAt m c (widx p) p = iprop(cred (tallyAt (kcell (c, some p)) () N) ∗ atPos ER (kcell (c, some p)) 0 ∅ 0) := if_neg (Nat.lt_irrefl _)
  have h2 : waitAt m c (widx p + 1) p = iprop(cellPay m c 0 (some (some p)) ∗ atPos ER (kcell (c, some p)) 1 ∅ 0) := if_pos (Nat.lt_succ_self _)
  have h3 : ∀ j, j ≠ p → waitAt m c (widx p + 1) j = waitAt m c (widx p) j := fun j hj => by
    unfold waitAt
    have : widx j ≠ widx p := fun e => hj (widx_inj e)
    by_cases hlt : widx j < widx p
    · rw [if_pos hlt, if_pos (by omega)]
    · rw [if_neg hlt, if_neg (by omega)]
  have hu := bigSep_univ_update (Φ := waitAt m c (widx p)) (Ψ := waitAt m c (widx p + 1)) p h3
  rw [h1, h2] at hu
  have hw : ∀ K' : PUnit → sProp 𝕄, wpE (defs₀ (F := F)) 𝒱₀ (c : Thread nD τ) none Set.univ (.waitDma2 sem src dst hsrc hdst) K'
      = waitSpec (c : Thread nD τ) Set.univ (csem (some p)) N K' := fun K' => by
    rw [wpE_waitDma2_eq, hs, hN]
  unfold waits owesE
  unfold waits owesE at h
  iintro ⟨⟨#HK, ⟨%W, HO⟩, Hw⟩, HR⟩
  ihave Hw := hu $$ Hw
  icases Hw with ⟨⟨Hc, Hat⟩, Hback⟩
  iapply (Rounds.wp_wait_rest_token 𝒱₀ ER (Rd m) (c : Thread nD τ) none (κ := K (c, some p)) (sm := csem (some p)) (k' := N)
      hw (Set.mem_univ _) () (O := 0) (W := W) (R := 0) (m := 0) (T := ∅)
      ((Nat.zero_add _).trans (expect_dma m c p).symm)) $$ [Hc HO Hat]
  · isplitr; · iapply (rec_inv m K (c, some p)); iexact HK
    isplitl [Hc]; · iexact Hc
    isplitl [HO]; · iexact HO
    isplitr; · rw [MayWait_zero]; iempintro
    iexact Hat
  iintro ⟨HO, Hat, -, Hpay⟩
  ihave Hpay := (Entails.of_eq (rest_dma m c p)) $$ Hpay
  iapply h
  isplitr [HR]
  · isplitr; · iexact HK
    isplitl [HO]; · iexists _; iexact HO
    iapply Hback
    isplitl [Hpay]; · iexact Hpay
    iexact Hat
  · iexact HR

end Cert.KernelIdeal.Run

end
-- ==== Proof.KernelIdeal.Send.lean ====
/-
A copy to a peer as a step.
-/
module

public import proofs.«01_k».proof.Proof.KernelIdeal.State

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1000000 in
theorem step_send (K : Dev nD × Cell → ℕ) (c : Dev nD) (g : Fin 8) (o : Fin 3) (n : Dev nD) (hn : n = peer c o)
    (off : Fin 4 → ℕ) (hoff : off = ![c.val, g.val, 0, 0]) (hinb : ∀ a, off a + S1x1x2x128.size a ≤ S4x8x2x128.size a)
    (sS sR : DmaSem sig) (hsS : sS = sendS g o) (hsR : sR = recvS g o) (O : CellTallies nD τ sig Unit)
    {hsc : (slM off hinb : Memref sig (Dev.tc n : Thread nD τ).2.kind .vmem S1x1x2x128 .f32).view.ref.isScScratch = false}
    {hsrc : (slM off hinb).view.WordExact} {hdst : (slM off hinb).view.WordExact}
    {hsem : DmaTarget.Typed .vmem (.dma sR) (.remote (Dev.tc n : Thread nD τ) (slM off hinb) (.dma sS) hsc)}
    {α : Type} {k : PUnit → Prog (TpuEff nD τ sig (Elt F) Λ₀ .tc) α} {Q : α → sProp 𝕄} :
    iprop(records m K ∗ owesE c (O + sendT c g o) ∗ slotPts c c g (Ring.shares3 fullShare o) (GAb m c) ∗ copyNeeds c g o)
      ⊢ iprop(((owesE c O ∗ sendCred c g o) -∗ WP c (k ⟨⟩) Q)
        -∗ WP c (.op (.enqueueDma (slM off hinb) (.remote (Dev.tc n : Thread nD τ) (slM off hinb) (.dma sS) hsc) (.dma sR) hsrc hdst hsem) k) Q) := by
  subst hn hoff hsS hsR
  unfold owesE copyNeeds copyToks sendCred
  iintro ⟨#HK, ⟨%W, HO⟩, Hs, ⟨%fd, Hd⟩, Ht1, Ht2⟩ Hk
  have h1 : ((slM ![c.val, g.val, 0, 0] hinb).view.loc (c : Thread nD τ) ↦[(slM ![c.val, g.val, 0, 0] hinb).view.set]{Ring.shares3 fullShare o} (GAb m c) : sProp 𝕄)
      ⊢ (Rd m).payload ((c : Thread nD τ), .dma (sendS g o)) 0 0 := by
    refine Entails.of_eq ?_
    rw [slM_set]
    exact (payload_cell m c (some (false, g, o)) 0).symm
  have h2 : ((slM ![c.val, g.val, 0, 0] hinb).view.loc (peer c o : Thread nD τ) ↦[(slM ![c.val, g.val, 0, 0] hinb).view.set]{fullShare}
      ((slM ![c.val, g.val, 0, 0] hinb).view.write (Elt F) fd ((slM ![c.val, g.val, 0, 0] hinb).view.read (Elt F) (GAb m c)) Finset.univ) : sProp 𝕄)
      ⊢ (Rd m).payload ((peer c o : Thread nD τ), .dma (recvS g o)) 0 0 := by
    refine Entails.of_eq ?_
    rw [slM_set]
    refine (slM_landed c g hinb (peer c o) (GAb m c) fd).trans ?_
    refine Eq.trans ?_ (payload_cell m (peer c o) (some (true, g, o)) 0).symm
    show _ = recvPay m (peer c o) g o
    unfold recvPay; rw [peer_rev]
  have hd1 : (0 : Fin 3) ∈ (Rd m).duties ((c : Thread nD τ), .dma (sendS g o)) 0 := by
    rw [show ((c : Thread nD τ), SemLoc.dma (sendS g o)) = kcell (c, some (false, g, o)) from rfl, duties_cell]; exact Finset.mem_singleton_self _
  have hd2 : (0 : Fin 3) ∈ (Rd m).duties ((peer c o : Thread nD τ), .dma (recvS g o)) 0 := by
    rw [show ((peer c o : Thread nD τ), SemLoc.dma (recvS g o)) = kcell (peer c o, some (true, g, o)) from rfl, duties_cell]; exact Finset.mem_singleton_self _
  have ha1 : (Rd m).amount ((c : Thread nD τ), .dma (sendS g o)) 0 0 = N := amount_cell m c (some (false, g, o)) 0
  have ha2 : (Rd m).amount ((peer c o : Thread nD τ), .dma (recvS g o)) 0 0 = N := amount_cell m (peer c o) (some (true, g, o)) 0
  have hO : O + sendT c g o = O + tallyAt ((peer c o : Thread nD τ), .dma (recvS g o)) () N := rfl
  have hcr : (slM ![c.val, g.val, 0, 0] hinb : Memref sig (Dev.tc (peer c o) : Thread nD τ).2.kind .vmem S1x1x2x128 .f32).view.amount (.dma (recvS g o)) = N := rfl
  have key := Rounds.wp_send_pointsTo (defs := defs₀ (F := F)) (Γ := PendingWaitsCtx.empty) 𝒱₀ ER (Rd m) (c : Thread nD τ) none (c' := (peer c o : Thread nD τ)) (κ₁ := K (c, some (false, g, o))) (κ₂ := K (peer c o, some (true, g, o)))
    (src := slM ![c.val, g.val, 0, 0] hinb) (dst := slM ![c.val, g.val, 0, 0] hinb) (sS := .dma (sendS g o)) (sem := .dma (recvS g o)) (hsrc := hsrc) (hdst := hdst) (hsc := hsc) (hsem := hsem)
    (k := k) (Q := Q) (Es := Set.univ)
    (r₁ := 0) (r₂ := 0) (d₁ := 0) (d₂ := 0) (fd := fd) (fs := GAb m c) hd1 hd2 () () N hcr ha1 ha2 O hO (W := W) h1 h2
  iapply key $$ [HO Hs Hd Ht1 Ht2]
  · isplitr; · iapply (rec_inv m K (c, some (false, g, o))); iexact HK
    isplitr; · iapply (rec_inv m K (peer c o, some (true, g, o))); iexact HK
    isplitl [Hs]; · rw [slM_set]; unfold slotPts; iexact Hs
    isplitl [Hd]; · rw [slM_set]; unfold slotPts; iexact Hd
    isplitl [HO]; · iexact HO
    isplitl [Ht1]; · iexact Ht1
    isplitr; · iapply (rec_reached m K (c, some (false, g, o))); iexact HK
    isplitl [Ht2]; · iexact Ht2
    iapply (rec_reached m K (peer c o, some (true, g, o))); iexact HK
  iintro ⟨Hc, HO⟩
  iapply Hk
  isplitl [HO]; · iexists W; iexact HO
  iexact Hc

end Cert.KernelIdeal.Run

end
-- ==== Proof.KernelIdeal.Fill.lean ====
/-
One chunk of the kernel up to its copies, as steps between states: the signals of chunk 0, the block loaded, the device's
own slot filled, the barrier wait of chunk 0, the copies to the three peers.
-/
module

public import proofs.«01_k».proof.Proof.KernelIdeal.Send

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-! ## Reading and writing through unit rectangles -/

omit [FloatOps F] in
/-- A whole buffer written through a unit rectangle, at an index the rectangle reaches. -/
theorem write_unit_hit (b : Ref sig .tc) (off size : Fin b.ty.shape.rank → ℕ) (inb) (f : b.ty.Contents (Elt F)) (w) (j : b.ty.Idx)
    (x : (Rect.unit (s := b.ty.shape) off size inb).shape.Idx) (h : ∀ a, (j a).val = off a + (x a).val) :
    ((Memref.whole b).access (Rect.unit off size inb) : View sig .tc _ _ _).write (Elt F) f w Finset.univ j = w x := by
  have hj : j = ((Memref.whole b).access (Rect.unit off size inb) : View sig .tc _ _ _).emb x := by
    funext a
    refine Fin.ext ?_
    rw [h a]
    show _ = off a + 1 * (x a).val
    rw [Nat.one_mul]
  rw [hj, View.write_emb_of_mem _ _ (Finset.mem_univ x)]
  rfl

omit [FloatOps F] in
/-- A whole buffer written through a unit rectangle, off the rectangle on some axis. -/
theorem write_unit_miss (b : Ref sig .tc) (off size : Fin b.ty.shape.rank → ℕ) (inb) (f : b.ty.Contents (Elt F)) (w) (j : b.ty.Idx)
    (a : Fin b.ty.shape.rank) (h : ¬(off a ≤ (j a).val ∧ (j a).val < off a + size a)) :
    ((Memref.whole b).access (Rect.unit off size inb) : View sig .tc _ _ _).write (Elt F) f w Finset.univ j = f j := by
  refine View.write_of_not_mem _ _ _ ?_
  rw [View.setOn_univ]
  show j ∉ ((View.whole b).slice (Rect.unit off size inb)).set
  rw [View.set_slice_whole, Rect.mem_set_unit]
  exact fun hj => h (hj a)

omit [FloatOps F] in
/-- A load of everything a view shows reads it. -/
theorem readAt_all {s : Shape} {e : EltTy} {sp : Space} (v : View sig .tc sp s e) (f : v.ty.Contents (Elt F)) (off : Fin s.rank → ℕ) (h : off = fun _ => 0) (inb) :
    v.readAt (Elt F) (Rect.unit (s := s) off s.size inb).toLoadRect f = v.read (Elt F) f := by
  subst h
  funext x
  show _root_.cast _ (f (v.emb ((Rect.whole s).emb x))) = _
  rw [Rect.emb_whole_apply]; rfl

/-! ## Storing one row of a slot -/

theorem row_subset (s : Dev nD) (g : Fin 8) (r : Fin 2) (inb) :
    ((Memref.whole cc0_scratch0).access (Rect.unit (s := S4x8x2x128) ![s.val, g.val, r.val, 0] S1x1x1x128.size inb) : View sig .tc _ _ _).set ⊆ slotSet s g := by
  intro j hj
  have hj : j ∈ ((View.whole cc0_scratch0).slice (Rect.unit (s := S4x8x2x128) ![s.val, g.val, r.val, 0] S1x1x1x128.size inb)).set := hj
  rw [View.set_slice_whole, Rect.mem_set_unit] at hj
  rw [mem_slotSet]
  have h0 := hj 0; have h1 := hj 1
  change s.val ≤ (j 0).val ∧ (j 0).val < s.val + 1 at h0
  change g.val ≤ (j 1).val ∧ (j 1).val < g.val + 1 at h1
  omega

omit [FloatOps F] in
/-- A slot with one of its rows written: that row is the payload, the other is what it was. -/
theorem row_write (s : Dev nD) (g : Fin 8) (r : Fin 2) (inb) (f : S4x8x2x128.Idx → F .f32) (w : S1x1x1x128.Idx → F .f32) (j : S4x8x2x128.Idx)
    (hj : j ∈ slotSet s g) :
    ((Memref.whole cc0_scratch0).access (Rect.unit (s := S4x8x2x128) ![s.val, g.val, r.val, 0] S1x1x1x128.size inb) : View sig .tc _ _ _).write (Elt F) f w Finset.univ j
      = if (j 2).val = r.val then w (ix4 0 0 0 (j 3)) else f j := by
  rw [mem_slotSet] at hj
  by_cases h : (j 2).val = r.val
  · rw [if_pos h]
    refine write_unit_hit cc0_scratch0 _ _ inb f w j (ix4 0 0 0 (j 3)) fun a => ?_
    match a with
    | ⟨0, _⟩ => exact hj.1
    | ⟨1, _⟩ => exact hj.2
    | ⟨2, _⟩ => exact h
    | ⟨3, _⟩ => exact (Nat.zero_add _).symm
  · rw [if_neg h]
    refine write_unit_miss cc0_scratch0 _ _ inb f w j (2 : Fin 4) ?_
    show ¬(r.val ≤ (j 2).val ∧ (j 2).val < r.val + 1)
    omega

/-- The kernel's load and store of row `r` of the slot `(c, g)`. -/
theorem step_row (c : Dev nD) (g : Fin 8) (r : Fin 2) (off : Fin 4 → ℕ) (hoff : off = ![c.val, g.val, r.val, 0]) (inb) (hl) (hx) (hm)
    (f : Buf (Elt F) (gLoc c)) (w : S1x1x1x128.Idx → F .f32)
    {α : Type} {k : PUnit → Prog (TpuEff nD τ sig (Elt F) Λ₀ .tc) α} {Q : α → sProp 𝕄} :
    slotPts c c g fullShare f
      ⊢ iprop(((∃ f', ⌜∀ j ∈ slotSet c g, f' j = if (j 2).val = r.val then w (ix4 0 0 0 (j 3)) else f j⌝ ∗ slotPts c c g fullShare f') -∗ WP c (k ⟨⟩) Q)
        -∗ WP c (.op (.load (Memref.whole cc0_scratch0) (Rect.unit (s := S4x8x2x128) off S1x1x1x128.size inb).toLoadRect hl)
            fun _ => .op (.store (Memref.whole cc0_scratch0) (Rect.unit (s := S4x8x2x128) off S1x1x1x128.size inb) w Finset.univ hx hm) k) Q) := by
  subst hoff
  unfold slotPts
  iintro Hs Hk
  iapply (wp_load_rect 𝒱₀ (c : Thread nD τ) none Set.univ (m := Memref.whole cc0_scratch0) (row_subset c g r inb)) $$ Hs; iintro Hs
  iapply (wp_store 𝒱₀ (c : Thread nD τ) none Set.univ (m := Memref.whole cc0_scratch0) (Mk := Finset.univ)
    (by rw [View.setOn_univ]; exact row_subset c g r inb)) $$ Hs; iintro Hs
  iapply Hk
  iexists _
  isplitr
  · ipureintro; exact fun j hj => row_write c g r inb f w j hj
  · iexact Hs

/-! ## The states of one chunk -/

/-- Between the signals and the barrier wait at chunk 0; before its copies at a later chunk. -/
def mid (K : Dev nD × Cell → ℕ) (c : Dev nD) (t : ℕ) : sProp 𝕄 :=
  iprop(records m K ∗ levAts L lv ∗ owesE c (owedR c (8 - t)) ∗ if t = 0 then waiting c else iprop(steady c ∗ copies c t))

/-- Past the barrier wait. -/
def mid' (K : Dev nD × Cell → ℕ) (c : Dev nD) (t : ℕ) : sProp 𝕄 :=
  iprop(records m K ∗ levAts L lv ∗ owesE c (owedR c (8 - t)) ∗ steady c ∗ copies c t)

/-- The tokens of a device's three signals. -/
def barToks (c : Dev nD) : sProp 𝕄 := bigSep Finset.univ fun o : Fin 3 => dutyTok ER (kcell (peer c o, none)) 0 o.rev

/-- The device's whole gather buffer, contents unknown. -/
def gatherAny (c : Dev nD) : sProp 𝕄 := iprop(∃ f, gLoc c ↦{fullShare} f)

/-- What chunk `t` starts from. -/
def pre (K : Dev nD × Cell → ℕ) (c : Dev nD) (t : ℕ) : sProp 𝕄 :=
  if t = 0 then iprop(records m K ∗ levAts L lv ∗ owesE c (O₀ c) ∗ waiting c ∗ barToks c ∗ gatherAny c)
  else iprop(mid m K c t ∗ ownSlots c t)

omit [FloatOps F] in
/-- The gather buffer is its slots. -/
theorem gather_slots (c : Dev nD) (f : Buf (Elt F) (gLoc c)) :
    (gLoc c ↦{fullShare} f : sProp 𝕄) = bigSep Finset.univ fun p : Dev nD × Fin 8 => slotPts c p.1 p.2 fullShare f := by
  unfold slotPts
  refine Ring.pointsTo_blocks (ℓ := gLoc c) (I := fun p : Dev nD × Fin 8 => slotSet p.1 p.2) ?_ ?_ f
  · rintro ⟨s, g⟩ ⟨s', g'⟩ hne
    refine Finset.disjoint_left.mpr fun j h h' => hne ?_
    rw [mem_slotSet] at h h'
    exact Prod.ext (Fin.ext (h.1.symm.trans h'.1)) (Fin.ext (h.2.symm.trans h'.2))
  · refine Finset.eq_univ_of_forall fun j => ?_
    rw [Finset.mem_biUnion]
    exact ⟨(j 0, j 1), Finset.mem_univ _, mem_slotSet.mpr ⟨rfl, rfl⟩⟩

omit [FloatOps F] in
/-- The devices are `c` and its three peers. -/
theorem bigSep_devs (c : Dev nD) (Φ : Dev nD → sProp 𝕄) :
    bigSep Finset.univ Φ = iprop(Φ c ∗ Φ (peer c 0) ∗ Φ (peer c 1) ∗ Φ (peer c 2)) := by
  rw [bigSep_univ_eq_bigSepL [c, peer c 0, peer c 1, peer c 2] (by revert c; decide) (by revert c; decide)]
  rfl

omit [FloatOps F] in
/-- At launch the gather buffer is the device's own slots and what its three signals hand over. -/
theorem gather_split (c : Dev nD) :
    gatherAny (F := F) c ⊢ iprop(ownSlots c 0 ∗ bigSep Finset.univ fun o : Fin 3 => barPay (F := F) (peer c o) o.rev) := by
  unfold gatherAny
  iintro ⟨%f, H⟩
  ihave H := (Entails.of_eq ((gather_slots c f).trans (bigSep_univ_prod _))) $$ H
  ihave H := (Entails.of_eq (bigSep_devs c _)) $$ H
  rw [Ring.bigSep_fin3]
  have e0 : (bigSep Finset.univ fun g : Fin 8 => slotPts c c g fullShare f) ⊢ ownSlots (F := F) c 0 := by
    unfold ownSlots
    refine bigSep_mono fun g _ => ?_
    rw [if_neg (Nat.not_lt_zero _)]
    exact exists_intro (Φ := fun f => slotPts c c g fullShare f) f
  have e1 (o : Fin 3) : (bigSep Finset.univ fun g : Fin 8 => slotPts c (peer c o) g fullShare f) ⊢ barPay (F := F) (peer c o) o.rev := by
    unfold barPay
    rw [peer_rev]
    exact bigSep_mono fun g _ => exists_intro (Φ := fun f => slotPts c (peer c o) g fullShare f) f
  icases H with ⟨H, H0, H1, H2⟩
  isplitl [H]; · iapply e0; iexact H
  isplitl [H0]; · iapply (e1 0); iexact H0
  isplitl [H1]; · iapply (e1 1); iexact H1
  iapply (e1 2); iexact H2

end Cert.KernelIdeal.Run

end
-- ==== Proof.KernelIdeal.Chunk.lean ====
/-
The three parts of one chunk: the signals and the load, the rows of the maxima stored, the maxima stored and the first
two copies; each a step between the states of `Fill`.
-/
module

public import proofs.«01_k».proof.Proof.KernelIdeal.Fill

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of a copy, as the kernel slices them -/

theorem emb_one (g : Fin 8) (o : Fin 3) (inb) (j : (Rect.unit (s := S8x3) ![g.val, o.val] S1x1.size inb).shape.Idx) :
    (Rect.unit (s := S8x3) ![g.val, o.val] S1x1.size inb).emb j = ix2 g o := by
  have h0 : (j 0).val < 1 := (j 0).isLt
  have h1 : (j 1).val < 1 := (j 1).isLt
  funext a
  refine Fin.ext ?_
  match a with
  | ⟨0, _⟩ => show g.val + 1 * (j 0).val = g.val; omega
  | ⟨1, _⟩ => show o.val + 1 * (j 1).val = o.val; omega

set_option maxRecDepth 4000 in
theorem scratch1_ix (g : Fin 8) (o : Fin 3) : (cc0_scratch1 : DmaSems sig S8x3).ix (ix2 g o) = sendS g o := by revert g o; decide
set_option maxRecDepth 4000 in
theorem scratch2_ix (g : Fin 8) (o : Fin 3) : (cc0_scratch2 : DmaSems sig S8x3).ix (ix2 g o) = recvS g o := by revert g o; decide

theorem sendSem_eq (g : Fin 8) (o : Fin 3) (off : Fin 2 → ℕ) (hoff : off = ![g.val, o.val]) (inb) (sq) :
    (SemArray.squeeze (SemArray.slice (cc0_scratch1 : DmaSems sig S8x3) (Rect.unit (s := S8x3) off S1x1.size inb)) S_ sq).sem = sendS g o := by
  subst hoff
  exact (congrArg (cc0_scratch1 : DmaSems sig S8x3).ix (emb_one g o inb _)).trans (scratch1_ix g o)
theorem recvSem_eq (g : Fin 8) (o : Fin 3) (off : Fin 2 → ℕ) (hoff : off = ![g.val, o.val]) (inb) (sq) :
    (SemArray.squeeze (SemArray.slice (cc0_scratch2 : DmaSems sig S8x3) (Rect.unit (s := S8x3) off S1x1.size inb)) S_ sq).sem = recvS g o := by
  subst hoff
  exact (congrArg (cc0_scratch2 : DmaSems sig S8x3).ix (emb_one g o inb _)).trans (scratch2_ix g o)

theorem cond1_iff (i : grid0.Coords) (g : Fin 8) (hi : (i 0).val = g.val) : k0_cond1 i = 1#1 ↔ g.val = 0 := by
  rw [k0_cond1, hi]
  clear hi
  revert g; decide

/-! ## Part 23 -/

/-- The operand block as the kernel holds it. -/
abbrev opnd (c : Dev nD) (a1 : Memref sig .tc .vmem S8192x128 .f32) (x : Vec F S8192x128 .f32) : sProp 𝕄 :=
  owns (c : Thread nD τ) a1 fullShare x

theorem part23_wp (K : Dev nD × Cell → ℕ) (c : Dev nD) (g : Fin 8) (i : grid0.Coords) (hi : (i 0).val = g.val)
    (a1 : Memref sig .tc .vmem S8192x128 .f32) (h1 : a1.IsWhole) (a2 : Memref sig .tc .vmem S2x1024 .f32) (h2 : a2.IsWhole) (h3) (x : Vec F S8192x128 .f32)
    {R : sProp 𝕄} {Q} (h : iprop(mid m K c g.val ∗ ownSlots c g.val ∗ opnd c a1 x ∗ R)
      ⊢ Q ⟨BitVec.ofNat 32 (i 0).val, c, devW c, SemArray.scalar (sig.barrier 0 rfl), k0_pay75 x, k0_pay76 x, k0_pay77 x, iotaRow, k0_pay78⟩) :
    iprop(pre m K c g.val ∗ opnd c a1 x ∗ R)
      ⊢ WP c (k0_part23 (F := F) i a1 h1 a2 h2 (Memref.whole cc0_scratch0) h3 cc0_scratch1 cc0_scratch2) Q := by
  have hload : iprop(mid m K c g.val ∗ ownSlots c g.val ∗ opnd c a1 x ∗ R)
      ⊢ WP c (.op (.load a1 (Rect.unit (s := S8192x128) ![0, 0] S8192x128.size inb_S8192x128_S8192x128_0_0).toLoadRect (View.loadsAt_vmem h_S8192x128))
          fun v7 => .ret (⟨BitVec.ofNat 32 (i 0).val, c, devW c, SemArray.scalar (sig.barrier 0 rfl), k0_pay75 v7, k0_pay76 v7, k0_pay77 v7, iotaRow, k0_pay78⟩
            : Σ' (arg0 : BitVec 32) (d0 : Dev nD) (v2 : BitVec 32) (v3 : Sems sig S_) (v8 : FVec F S8192x128 .f32) (v9 : FVec F S128 .f32) (v15 : FVec F S8192x128 .f32) (v16 : IVec S1x8192 32), IVec S1x8192 32)) Q := by
    unfold opnd owns
    unfold opnd owns at h
    iintro ⟨Hm, Ho, ⟨%f, %hf, Hf⟩, HR⟩
    iapply (wp_load 𝒱₀ (c : Thread nD τ) none Set.univ (m := a1) (View.setOn_subset_set a1.view _)) $$ Hf; iintro Hf
    rw [wp_ret, readAt_all a1.view f ![0, 0] (funext fun a => by fin_cases a <;> rfl) inb_S8192x128_S8192x128_0_0, hf]
    imodintro
    iapply h
    isplitl [Hm]; · iexact Hm
    isplitl [Ho]; · iexact Ho
    isplitr [HR]
    · iexists f; isplitr; · ipureintro; exact hf
      iexact Hf
    · iexact HR
  rw [k0_part23_eq_skeleton]; unfold k0_part23_skel
  by_cases h0 : g.val = 0
  · have hc : k0_cond1 i = 1#1 := (cond1_iff i g hi).mpr h0
    simp only [dif_pos hc, semSignalWord, Prog.lift, Prog.bind_op, Prog.bind_ret, Prog.pure_eq_ret, wp_deviceId]
    rw [h0] at hload ⊢
    unfold pre
    rw [if_pos rfl]
    iintro ⟨⟨#HK, #Hlev, HO, Hw, Ht, Hg⟩, Hx, HR⟩
    ihave Hg := (gather_split c) $$ Hg
    icases Hg with ⟨Hown, Hp⟩
    ihave Hp := (Entails.of_eq (Ring.bigSep_fin3 _)) $$ Hp
    ihave Ht := (show barToks (F := F) c ⊢ _ from Entails.of_eq (Ring.bigSep_fin3 _)) $$ Ht
    icases Hp with ⟨Hp0, Hp1, Hp2⟩
    icases Ht with ⟨Ht0, Ht1, Ht2⟩
    iapply (step_signal m K c 0 _ (Fin.ext ((k0_dev1_eq c).trans (by show (c.val + 1) % 4 = (c.val + 0 + 1) % 4; rfl))) (owedR c 8 + barT c 2 + barT c 1)) $$ [HO Ht0 Hp0]
    · isplitr; · iexact HK
      isplitl [HO]; · iexact HO
      isplitl [Ht0]; · iexact Ht0
      iexact Hp0
    iintro HO
    iapply (step_signal m K c 1 _ (Fin.ext ((k0_dev2_eq c).trans (by show (c.val + 2) % 4 = (c.val + 1 + 1) % 4; rfl))) (owedR c 8 + barT c 2)) $$ [HO Ht1 Hp1]
    · isplitr; · iexact HK
      isplitl [HO]; · iexact HO
      isplitl [Ht1]; · iexact Ht1
      iexact Hp1
    iintro HO
    iapply (step_signal m K c 2 _ (Fin.ext ((k0_dev3_eq c).trans (by show (c.val + 3) % 4 = (c.val + 2 + 1) % 4; rfl))) (owedR c 8)) $$ [HO Ht2 Hp2]
    · isplitr; · iexact HK
      isplitl [HO]; · iexact HO
      isplitl [Ht2]; · iexact Ht2
      iexact Hp2
    iintro HO
    iapply hload
    isplitl [HO Hw]
    · unfold mid
      rw [if_pos rfl]
      isplitr; · iexact HK
      isplitr; · iexact Hlev
      isplitl [HO]; · iexact HO
      iexact Hw
    isplitl [Hown]; · iexact Hown
    isplitl [Hx]; · iexact Hx
    iexact HR
  · have hc : ¬ k0_cond1 i = 1#1 := fun e => h0 ((cond1_iff i g hi).mp e)
    simp only [dif_neg hc, Prog.lift, Prog.bind_op, Prog.bind_ret, Prog.pure_eq_ret, wp_deviceId]
    unfold pre
    rw [if_neg h0]
    iintro ⟨⟨Hm, Ho⟩, Hx, HR⟩
    iapply hload
    isplitl [Hm]; · iexact Hm
    isplitl [Ho]; · iexact Ho
    isplitl [Hx]; · iexact Hx
    iexact HR

/-! ## Part 24 -/

omit [FloatOps F] in
/-- The slot of the chunk at hand, taken out of the device's unfilled ones. -/
theorem ownSlots_take (c : Dev nD) (g : Fin 8) :
    ownSlots (F := F) c g.val ⊢ iprop((∃ f, slotPts c c g fullShare f) ∗ ownSlots c (g.val + 1)) := by
  unfold ownSlots
  have hu := bigSep_univ_update (Φ := fun g' : Fin 8 => if g'.val < g.val then iprop(emp) else iprop(∃ f, slotPts (F := F) c c g' fullShare f))
    (Ψ := fun g' : Fin 8 => if g'.val < g.val + 1 then iprop(emp) else iprop(∃ f, slotPts (F := F) c c g' fullShare f)) g fun j hj => by
      have : j.val ≠ g.val := fun e => hj (Fin.ext e)
      by_cases hlt : j.val < g.val
      · rw [if_pos hlt, if_pos (by omega)]
      · rw [if_neg hlt, if_neg (by omega)]
  rw [if_neg (Nat.lt_irrefl _), if_pos (Nat.lt_succ_self _)] at hu
  refine hu.trans (show (_ : sProp 𝕄) ⊢ _ from ?_)
  iintro ⟨H, Hb⟩
  isplitl [H]; · iexact H
  iapply Hb; iempintro

/-- The slot after part 24: row 1 is filled unless the one-hot product is exact. -/
def half (c : Dev nD) (g : Fin 8) (x : Vec F S8192x128 .f32) : sProp 𝕄 :=
  iprop(∃ f, ⌜uq x ≠ 1#1 → ∀ j ∈ slotSet c g, (j 2).val = 1 → f j = idxRow (devW c) x (ix4 0 0 0 (j 3))⌝ ∗ slotPts c c g fullShare f)

theorem bit_not (b : BitVec 1) : (Scalar.xori b 1#1 = 1#1) = (b ≠ 1#1) := by revert b; decide
theorem bit_id (b : BitVec 1) : Scalar.cmpi .ne (Scalar.extui b) 0#32 = b := by revert b; decide

theorem part24_wp (c : Dev nD) (g : Fin 8) (i : grid0.Coords) (hi : (i 0).val = g.val) (a0 : BitVec 32)
    (a1 : Memref sig .tc .vmem S8192x128 .f32) (h1 : a1.IsWhole) (a2 : Memref sig .tc .vmem S2x1024 .f32) (h2 : a2.IsWhole) (h3) (x : Vec F S8192x128 .f32)
    {R : sProp 𝕄} {Q} (h : iprop(half c g x ∗ R) ⊢ Q ⟨k0_pay81 (devW c) (k0_pay77 x) iotaRow k0_pay78, uq x⟩) :
    iprop((∃ f, slotPts c c g fullShare f) ∗ R)
      ⊢ WP c (k0_part24 (F := F) i a1 h1 a2 h2 (Memref.whole cc0_scratch0) h3 cc0_scratch1 cc0_scratch2 a0 c (devW c) (k0_pay75 x) (k0_pay76 x) (k0_pay77 x) iotaRow k0_pay78) Q := by
  rw [k0_part24_eq_skeleton]; unfold k0_part24_skel
  simp only [bit_id, show Scalar.cmpf .ole (k0_pay82 (k0_pay77 x) iotaRow k0_pay78) (Scalar.ofBits (F := F) .f32 0x3FC00000#32) = uq x from rfl]
  by_cases hb : uq x = 1#1
  · rw [if_neg (by rw [bit_not]; exact fun e => e hb)]
    simp only [Prog.pure_eq_ret, Prog.bind_ret, wp_ret]
    iintro ⟨⟨%f, Hs⟩, HR⟩
    imodintro
    iapply h
    isplitl [Hs]
    · unfold half; iexists f; isplitr
      · ipureintro; exact fun e => absurd hb e
      · iexact Hs
    · iexact HR
  · rw [if_pos (by rw [bit_not]; exact hb)]
    simp only [Prog.lift, Prog.bind_op, Prog.pure_eq_ret, Prog.bind_ret, wp_ret]
    iintro ⟨⟨%f, Hs⟩, HR⟩
    iapply (step_row c g 1 (k0_off1 i c) ((k0_off1_eq i c).trans (by rw [hi]; rfl)) (k0_off1_inb i c) _ _ _ f (k0_pay83 (devW c) (k0_pay75 x) (k0_pay76 x))) $$ Hs
    iintro ⟨%f', %hf', Hs⟩
    rw [WP, wp_ret]
    imodintro
    iapply h
    isplitl [Hs]
    · unfold half; iexists f'; isplitr
      · ipureintro
        intro _ j hj hj2
        exact (hf' j hj).trans ((if_pos hj2).trans (by rw [idxRow, if_neg hb]))
      · iexact Hs
    · iexact HR

/-! ## Part 25 -/

/-- The slot with row 1 filled. -/
def filled1 (c : Dev nD) (g : Fin 8) (x : Vec F S8192x128 .f32) : sProp 𝕄 :=
  iprop(∃ f, ⌜∀ j ∈ slotSet c g, (j 2).val = 1 → f j = idxRow (devW c) x (ix4 0 0 0 (j 3))⌝ ∗ slotPts c c g fullShare f)

/-- The second branch: the rows of the maxima by the one-hot product, where it is exact. -/
theorem row1_if (c : Dev nD) (g : Fin 8) (x : Vec F S8192x128 .f32) (off : Fin 4 → ℕ) (hoff : off = ![c.val, g.val, 1, 0]) (inb) (hl) (hx) (hm)
    {α : Type} {T : Prog (TpuEff nD τ sig (Elt F) Λ₀ .tc) α} {Q : α → sProp 𝕄} {R : sProp 𝕄} (h : iprop(filled1 c g x ∗ R) ⊢ WP c T Q) :
    iprop(half c g x ∗ R) ⊢ WP c (if uq x = 1#1 then
        .op (.load (Memref.whole cc0_scratch0) (Rect.unit (s := S4x8x2x128) off S1x1x1x128.size inb).toLoadRect hl)
          fun _ => .op (.store (Memref.whole cc0_scratch0) (Rect.unit (s := S4x8x2x128) off S1x1x1x128.size inb)
            (k0_pay84 (k0_pay81 (devW c) (k0_pay77 x) iotaRow k0_pay78)) Finset.univ hx hm) fun _ => T
      else T) Q := by
  unfold half
  unfold filled1 at h
  by_cases hb : uq x = 1#1
  · rw [if_pos hb]
    iintro ⟨⟨%f, -, Hs⟩, HR⟩
    iapply (step_row c g 1 off hoff inb hl hx hm f _) $$ Hs
    iintro ⟨%f', %hf', Hs⟩
    iapply h
    isplitr [HR]
    · iexists f'; isplitr
      · ipureintro
        intro j hj hj2
        exact (hf' j hj).trans ((if_pos hj2).trans (by rw [idxRow, if_pos hb]))
      · iexact Hs
    · iexact HR
  · rw [if_neg hb]
    iintro ⟨⟨%f, %hf, Hs⟩, HR⟩
    iapply h
    isplitr [HR]
    · iexists f; isplitr
      · ipureintro; exact hf hb
      · iexact Hs
    · iexact HR

/-- The maxima stored: the slot holds its contents of record. -/
theorem row0_store (c : Dev nD) (g : Fin 8) (off : Fin 4 → ℕ) (hoff : off = ![c.val, g.val, 0, 0]) (inb) (hl) (hx) (hm)
    {α : Type} {k : PUnit → Prog (TpuEff nD τ sig (Elt F) Λ₀ .tc) α} {Q : α → sProp 𝕄} {R : sProp 𝕄}
    (h : iprop(slotPts c c g fullShare (GAb m c) ∗ R) ⊢ WP c (k ⟨⟩) Q) :
    iprop(filled1 c g (xs m c (tOf g)) ∗ R)
      ⊢ WP c (.op (.load (Memref.whole cc0_scratch0) (Rect.unit (s := S4x8x2x128) off S1x1x1x128.size inb).toLoadRect hl)
          fun _ => .op (.store (Memref.whole cc0_scratch0) (Rect.unit (s := S4x8x2x128) off S1x1x1x128.size inb)
            (k0_pay85 (k0_pay76 (xs m c (tOf g)))) Finset.univ hx hm) k) Q := by
  unfold filled1
  iintro ⟨⟨%f, %hf, Hs⟩, HR⟩
  iapply (step_row c g 0 off hoff inb hl hx hm f _) $$ Hs
  iintro ⟨%f', %hf', Hs⟩
  have e : slotPts c c g fullShare f' = slotPts c c g fullShare (GAb m c) := by
    unfold slotPts
    refine pointsTo_congr fun j hj => ?_
    have hj' := mem_slotSet.mp hj
    have e0 : j 0 = c := Fin.ext hj'.1
    have e1 : j 1 = g := Fin.ext hj'.2
    refine (hf' j hj).trans ?_
    show _ = GA m j
    unfold GA
    rw [e0, e1]
    by_cases h2 : (j 2).val = 0
    · exact (if_pos h2).trans (if_pos h2).symm
    · have hlt : (j 2).val < 2 := (j 2).isLt
      exact (if_neg h2).trans ((hf j hj (by omega)).trans (if_neg h2).symm)
  ihave Hs := (Entails.of_eq e) $$ Hs
  iapply h
  isplitl [Hs]; · iexact Hs
  iexact HR

/-- The barrier wait of chunk 0. -/
theorem barrier_if (K : Dev nD × Cell → ℕ) (c : Dev nD) (g : Fin 8) (b : BitVec 1) (hb : b = 1#1 ↔ g.val = 0)
    {α : Type} {T : Prog (TpuEff nD τ sig (Elt F) Λ₀ .tc) α} {Q : α → sProp 𝕄} {R : sProp 𝕄} (h : iprop(mid' m K c g.val ∗ R) ⊢ WP c T Q) :
    iprop(mid m K c g.val ∗ R) ⊢ WP c (if _h : b = 1#1 then .op (.semWait barS (3#32 : BitVec 32).toInt) fun _ => T else T) Q := by
  unfold mid
  unfold mid' at h
  by_cases h0 : g.val = 0
  · rw [dif_pos (hb.mpr h0), if_pos h0]
    iintro ⟨⟨#HK, #Hlev, HO, Hw⟩, HR⟩
    iapply (step_barrier m K c (8 - g.val)) $$ [HO Hw]
    · isplitr; · iexact HK
      isplitr; · iexact Hlev
      isplitl [HO]; · iexact HO
      iexact Hw
    iintro ⟨HO, Hst, Hc⟩
    iapply h
    isplitr [HR]
    · isplitr; · iexact HK
      isplitr; · iexact Hlev
      isplitl [HO]; · iexact HO
      isplitl [Hst]; · iexact Hst
      rw [h0]; iexact Hc
    · iexact HR
  · rw [dif_neg fun e => h0 (hb.mp e), if_neg h0]
    exact h

omit [FloatOps F] in
/-- The copies of one chunk: what they need, and back what they leave. -/
theorem copies_take (c : Dev nD) (g : Fin 8) :
    copies (F := F) c g.val ⊢ iprop((bigSep Finset.univ fun o : Fin 3 => copyNeeds c g o)
      ∗ ((bigSep Finset.univ fun o : Fin 3 => sendCred c g o) -∗ copies c (g.val + 1))) := by
  unfold copies
  have hu := bigSep_univ_update (Φ := fun g' : Fin 8 => if g'.val < g.val then bigSep Finset.univ fun o : Fin 3 => sendCred (F := F) c g' o else bigSep Finset.univ fun o : Fin 3 => copyNeeds (F := F) c g' o)
    (Ψ := fun g' : Fin 8 => if g'.val < g.val + 1 then bigSep Finset.univ fun o : Fin 3 => sendCred (F := F) c g' o else bigSep Finset.univ fun o : Fin 3 => copyNeeds (F := F) c g' o) g fun j hj => by
      have : j.val ≠ g.val := fun e => hj (Fin.ext e)
      by_cases hlt : j.val < g.val
      · rw [if_pos hlt, if_pos (by omega)]
      · rw [if_neg hlt, if_neg (by omega)]
  rw [if_neg (Nat.lt_irrefl _), if_pos (Nat.lt_succ_self _)] at hu
  exact hu

/-- Before the third copy of chunk `g`. -/
def twoSent (K : Dev nD × Cell → ℕ) (c : Dev nD) (g : Fin 8) : sProp 𝕄 :=
  iprop(records m K ∗ levAts L lv ∗ steady c ∗ owesE c (owedR c (7 - g.val) + sendT c g 2) ∗ slotPts c c g (Ring.shares3 fullShare 2) (GAb m c)
    ∗ copyNeeds c g 2 ∗ ((sendCred c g 2) -∗ copies c (g.val + 1)))

/-- After the copies of chunk `g`. -/
def allSent (K : Dev nD × Cell → ℕ) (c : Dev nD) (g : Fin 8) : sProp 𝕄 :=
  iprop(records m K ∗ levAts L lv ∗ steady c ∗ owesE c (owedR c (7 - g.val)) ∗ copies c (g.val + 1))

theorem owedR_step (c : Dev nD) (g : Fin 8) : owedR c (8 - g.val) = owedR c (7 - g.val) + sendT c g 2 + sendT c g 1 + sendT c g 0 := by
  have h : 8 - g.val = (7 - g.val) + 1 := by have := g.2; omega
  have h' : Fin.ofNat 8 (7 - (7 - g.val)) = g := Fin.ext (by have := g.2; show (7 - (7 - g.val)) % 8 = g.val; omega)
  rw [h]
  show owedR c (7 - g.val) + sendT c (Fin.ofNat 8 (7 - (7 - g.val))) 2 + sendT c (Fin.ofNat 8 (7 - (7 - g.val))) 1 + sendT c (Fin.ofNat 8 (7 - (7 - g.val))) 0 = _
  rw [h']

theorem two_sends (K : Dev nD × Cell → ℕ) (c : Dev nD) (g : Fin 8) (n0 n1 : Dev nD) (hn0 : n0 = peer c 0) (hn1 : n1 = peer c 1)
    (off : Fin 4 → ℕ) (hoff : off = ![c.val, g.val, 0, 0]) (hinb : ∀ a, off a + S1x1x2x128.size a ≤ S4x8x2x128.size a)
    (sS0 sR0 sS1 sR1 : DmaSem sig) (hsS0 : sS0 = sendS g 0) (hsR0 : sR0 = recvS g 0) (hsS1 : sS1 = sendS g 1) (hsR1 : sR1 = recvS g 1)
    {hsc0 hsc1 hsrc0 hsrc1 hdst0 hdst1 hsem0 hsem1}
    {α : Type} {k : PUnit → Prog (TpuEff nD τ sig (Elt F) Λ₀ .tc) α} {Q : α → sProp 𝕄} {R : sProp 𝕄} (h : iprop(twoSent m K c g ∗ R) ⊢ WP c (k ⟨⟩) Q) :
    iprop(mid' m K c g.val ∗ slotPts c c g fullShare (GAb m c) ∗ R)
      ⊢ WP c (.op (.enqueueDma (slM off hinb) (.remote (Dev.tc n0 : Thread nD τ) (slM off hinb) (.dma sS0) hsc0) (.dma sR0) hsrc0 hdst0 hsem0)
          fun _ => .op (.enqueueDma (slM off hinb) (.remote (Dev.tc n1 : Thread nD τ) (slM off hinb) (.dma sS1) hsc1) (.dma sR1) hsrc1 hdst1 hsem1) k) Q := by
  unfold mid'
  unfold twoSent at h
  rw [owedR_step]
  iintro ⟨⟨#HK, #Hlev, HO, Hst, Hc⟩, Hs, HR⟩
  ihave Hc := (copies_take c g) $$ Hc
  icases Hc with ⟨Hn, Hback⟩
  ihave Hn := (Entails.of_eq (Ring.bigSep_fin3 _)) $$ Hn
  icases Hn with ⟨Hn0, Hn1, Hn2⟩
  ihave Hs := (show slotPts c c g fullShare (GAb m c) ⊢ iprop(slotPts c c g (Ring.shares3 fullShare 0) (GAb m c) ∗ slotPts c c g (Ring.shares3 fullShare 1) (GAb m c) ∗ slotPts c c g (Ring.shares3 fullShare 2) (GAb m c)) from by
    unfold slotPts; exact (Ring.pointsTo_thirds _ _).1) $$ Hs
  icases Hs with ⟨Hs0, Hs1, Hs2⟩
  iapply (step_send m K c g 0 n0 hn0 off hoff hinb sS0 sR0 hsS0 hsR0 (owedR c (7 - g.val) + sendT c g 2 + sendT c g 1)) $$ [HO Hs0 Hn0]
  · isplitr; · iexact HK
    isplitl [HO]; · iexact HO
    isplitl [Hs0]; · iexact Hs0
    iexact Hn0
  iintro ⟨HO, Hc0⟩
  iapply (step_send m K c g 1 n1 hn1 off hoff hinb sS1 sR1 hsS1 hsR1 (owedR c (7 - g.val) + sendT c g 2)) $$ [HO Hs1 Hn1]
  · isplitr; · iexact HK
    isplitl [HO]; · iexact HO
    isplitl [Hs1]; · iexact Hs1
    iexact Hn1
  iintro ⟨HO, Hc1⟩
  iapply h
  isplitr [HR]
  · isplitr; · iexact HK
    isplitr; · iexact Hlev
    isplitl [Hst]; · iexact Hst
    isplitl [HO]; · iexact HO
    isplitl [Hs2]; · iexact Hs2
    isplitl [Hn2]; · iexact Hn2
    iintro Hc2
    iapply Hback
    rw [Ring.bigSep_fin3]
    isplitl [Hc0]; · iexact Hc0
    isplitl [Hc1]; · iexact Hc1
    iexact Hc2
  · iexact HR

theorem third_send (K : Dev nD × Cell → ℕ) (c : Dev nD) (g : Fin 8) (n2 : Dev nD) (hn2 : n2 = peer c 2)
    (off : Fin 4 → ℕ) (hoff : off = ![c.val, g.val, 0, 0]) (hinb : ∀ a, off a + S1x1x2x128.size a ≤ S4x8x2x128.size a)
    (sS2 sR2 : DmaSem sig) (hsS2 : sS2 = sendS g 2) (hsR2 : sR2 = recvS g 2) {hsc hsrc hdst hsem}
    {α : Type} {k : PUnit → Prog (TpuEff nD τ sig (Elt F) Λ₀ .tc) α} {Q : α → sProp 𝕄} {R : sProp 𝕄} (h : iprop(allSent m K c g ∗ R) ⊢ WP c (k ⟨⟩) Q) :
    iprop(twoSent m K c g ∗ R)
      ⊢ WP c (.op (.enqueueDma (slM off hinb) (.remote (Dev.tc n2 : Thread nD τ) (slM off hinb) (.dma sS2) hsc) (.dma sR2) hsrc hdst hsem) k) Q := by
  unfold twoSent
  unfold allSent at h
  iintro ⟨⟨#HK, #Hlev, Hst, HO, Hs2, Hn2, Hback⟩, HR⟩
  iapply (step_send m K c g 2 n2 hn2 off hoff hinb sS2 sR2 hsS2 hsR2 (owedR c (7 - g.val))) $$ [HO Hs2 Hn2]
  · isplitr; · iexact HK
    isplitl [HO]; · iexact HO
    isplitl [Hs2]; · iexact Hs2
    iexact Hn2
  iintro ⟨HO, Hc2⟩
  iapply h
  isplitr [HR]
  · isplitr; · iexact HK
    isplitr; · iexact Hlev
    isplitl [Hst]; · iexact Hst
    isplitl [HO]; · iexact HO
    iapply Hback; iexact Hc2
  · iexact HR

theorem word_zero (g : Fin 8) :
    Scalar.cmpi .ne (Scalar.extui (Scalar.cmpi .eq (BitVec.ofNat 32 g.val) 0#32)) 0#32 = 1#1 ↔ g.val = 0 := by revert g; decide

set_option maxHeartbeats 400000 in
theorem part25_wp (K : Dev nD × Cell → ℕ) (c : Dev nD) (g : Fin 8) (i : grid0.Coords) (hi : (i 0).val = g.val)
    (a1 : Memref sig .tc .vmem S8192x128 .f32) (h1 : a1.IsWhole) (a2 : Memref sig .tc .vmem S2x1024 .f32) (h2 : a2.IsWhole) (h3)
    {R : sProp 𝕄} {Q} (h : iprop(twoSent m K c g ∗ R) ⊢ Q (Scalar.addi (devW c) 3#32)) :
    iprop(half c g (xs m c (tOf g)) ∗ mid m K c g.val ∗ R)
      ⊢ WP c (k0_part25 (F := F) i a1 h1 a2 h2 (Memref.whole cc0_scratch0) h3 cc0_scratch1 cc0_scratch2 (BitVec.ofNat 32 (i 0).val) c (devW c)
          (SemArray.scalar (sig.barrier 0 rfl)) (k0_pay76 (xs m c (tOf g)))
          (k0_pay81 (devW c) (k0_pay77 (xs m c (tOf g))) iotaRow k0_pay78) (uq (xs m c (tOf g)))) Q := by
  rw [k0_part25_eq_skeleton]; unfold k0_part25_skel
  simp only [semWaitWord, Prog.lift, Prog.bind_op, Prog.pure_eq_ret, Prog.bind_ret]
  have e1 : k0_off2 i c = ![c.val, g.val, 1, 0] := (k0_off2_eq i c).trans (by rw [hi])
  have e0 : k0_off3 i c = ![c.val, g.val, 0, 0] := (k0_off3_eq i c).trans (by rw [hi])
  have e5 : k0_off5 i c = ![c.val, g.val, 0, 0] := (k0_off5_eq i c).trans (by rw [hi])
  have s0 : k0_off4 i = ![g.val, (0 : Fin 3).val] := (k0_off4_eq i).trans (by rw [hi]; rfl)
  have s1 : k0_off6 i = ![g.val, (1 : Fin 3).val] := (k0_off6_eq i).trans (by rw [hi]; rfl)
  refine row1_if c g (xs m c (tOf g)) (k0_off2 i c) e1 _ _ _ _ ?_
  refine row0_store m c g (k0_off3 i c) e0 _ _ _ _ ?_
  refine (show _ ⊢ iprop(mid m K c g.val ∗ slotPts c c g fullShare (GAb m c) ∗ R) from ?_).trans
    (barrier_if m K c g _ (by rw [hi]; exact word_zero g)
      (two_sends m K c g _ _ (Fin.ext (k0_dev4_eq c)) (Fin.ext (k0_dev5_eq c)) (k0_off5 i c) e5 (k0_off5_inb i c) _ _ _ _
        (sendSem_eq g 0 _ s0 _ _) (recvSem_eq g 0 _ s0 _ _) (sendSem_eq g 1 _ s1 _ _) (recvSem_eq g 1 _ s1 _ _) ?_))
  · iintro ⟨Hs, Hm, HR⟩
    isplitl [Hm]; · iexact Hm
    isplitl [Hs]; · iexact Hs
    iexact HR
  · rw [WP, wp_ret]
    iintro H; imodintro; iapply h; iexact H

end Cert.KernelIdeal.Run

end
-- ==== Proof.KernelIdeal.Waits.lean ====
/-
The waits of the last chunk, part by part, and what they leave: the whole gather buffer at its contents of record.
-/
module

public import proofs.«01_k».proof.Proof.KernelIdeal.Chunk

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-- A part's end: its value handed on. -/
theorem ret_of {c : Dev nD} {P : sProp 𝕄} {α : Type} {a : α} {Q : α → sProp 𝕄} (h : P ⊢ Q a) : P ⊢ WP c (.ret a) Q := by
  rw [WP, wp_ret]
  iintro H; imodintro; iapply h; iexact H

/-- The wait for the copy that lands in chunk `g`'s slot of `peer c (rev o)`. -/
theorem wait_recv (K : Dev nD × Cell → ℕ) (c : Dev nD) (g : Fin 8) (o : Fin 3) {n : ℕ} (hn : widx (true, g, o) = n) {off : Fin 2 → ℕ} {inb} {sq}
    {src dst : Memref sig .tc .vmem S1x1x2x128 .f32} {hsrc : src.view.WordExact} {hdst : dst.view.WordExact}
    {α : Type} {k : PUnit → Prog (TpuEff nD τ sig (Elt F) Λ₀ .tc) α} {Q : α → sProp 𝕄} {R : sProp 𝕄}
    (h : iprop(waits m K c (n + 1) ∗ R) ⊢ WP c (k ⟨⟩) Q)
    (hoff : off = ![g.val, o.val] := by rfl) (hN : dst.view.dmaCredit = N := by rfl) :
    iprop(waits m K c n ∗ R)
      ⊢ WP c (.op (.waitDma2 (SemArray.squeeze (SemArray.slice (cc0_scratch2 : DmaSems sig S8x3) (Rect.unit (s := S8x3) off S1x1.size inb)) S_ sq).sem src dst hsrc hdst) k) Q :=
  step_wait m K c (true, g, o) n hn _ (congrArg SemLoc.dma (recvSem_eq g o off hoff inb sq)) hN h

/-- The wait for the copy of chunk `g` to `peer c o` to have left. -/
theorem wait_send (K : Dev nD × Cell → ℕ) (c : Dev nD) (g : Fin 8) (o : Fin 3) {n : ℕ} (hn : widx (false, g, o) = n) {off : Fin 2 → ℕ} {inb} {sq}
    {src dst : Memref sig .tc .vmem S1x1x2x128 .f32} {hsrc : src.view.WordExact} {hdst : dst.view.WordExact}
    {α : Type} {k : PUnit → Prog (TpuEff nD τ sig (Elt F) Λ₀ .tc) α} {Q : α → sProp 𝕄} {R : sProp 𝕄}
    (h : iprop(waits m K c (n + 1) ∗ R) ⊢ WP c (k ⟨⟩) Q)
    (hoff : off = ![g.val, o.val] := by rfl) (hN : dst.view.dmaCredit = N := by rfl) :
    iprop(waits m K c n ∗ R)
      ⊢ WP c (.op (.waitDma2 (SemArray.squeeze (SemArray.slice (cc0_scratch1 : DmaSems sig S8x3) (Rect.unit (s := S8x3) off S1x1.size inb)) S_ sq).sem src dst hsrc hdst) k) Q :=
  step_wait m K c (false, g, o) n hn _ (congrArg SemLoc.dma (sendSem_eq g o off hoff inb sq)) hN h

/-! ## The parts -/

theorem part1_wp (K : Dev nD × Cell → ℕ) (c : Dev nD) (i : grid0.Coords) (v2 : BitVec 32) (h5 : k0_cond5 i = 1#1)
    {a1 : Memref sig .tc .vmem S8192x128 .f32} {h1 : a1.IsWhole} {a2 : Memref sig .tc .vmem S2x1024 .f32} {h2 : a2.IsWhole} {h3} {R : sProp 𝕄} {Q}
    (h : iprop(waits m K c 2 ∗ R) ⊢ Q ⟨⟩) :
    iprop(waits m K c 0 ∗ R) ⊢ WP c (k0_part1 (F := F) i a1 h1 a2 h2 (Memref.whole cc0_scratch0) h3 cc0_scratch1 cc0_scratch2 c v2 h5) Q := by
  rw [k0_part1_eq_skeleton]; unfold k0_part1_skel
  simp only [Prog.lift, Prog.bind_op, Prog.pure_eq_ret, Prog.bind_ret]
  exact wait_recv m K c 0 0 rfl (wait_send m K c 0 0 rfl ((ret_of h)))

theorem part2_wp (K : Dev nD × Cell → ℕ) (c : Dev nD) (i : grid0.Coords) (v2 : BitVec 32) (h5 : k0_cond5 i = 1#1)
    {a1 : Memref sig .tc .vmem S8192x128 .f32} {h1 : a1.IsWhole} {a2 : Memref sig .tc .vmem S2x1024 .f32} {h2 : a2.IsWhole} {h3} {R : sProp 𝕄} {Q}
    (h : iprop(waits m K c 5 ∗ R) ⊢ Q ⟨⟩) :
    iprop(waits m K c 2 ∗ R) ⊢ WP c (k0_part2 (F := F) i a1 h1 a2 h2 (Memref.whole cc0_scratch0) h3 cc0_scratch1 cc0_scratch2 c v2 h5) Q := by
  rw [k0_part2_eq_skeleton]; unfold k0_part2_skel
  simp only [Prog.lift, Prog.bind_op, Prog.pure_eq_ret, Prog.bind_ret]
  exact wait_recv m K c 0 1 rfl (wait_send m K c 0 1 rfl (wait_recv m K c 0 2 rfl ((ret_of h))))

theorem part3_wp (K : Dev nD × Cell → ℕ) (c : Dev nD) (i : grid0.Coords) (v2 : BitVec 32) (h5 : k0_cond5 i = 1#1)
    {a1 : Memref sig .tc .vmem S8192x128 .f32} {h1 : a1.IsWhole} {a2 : Memref sig .tc .vmem S2x1024 .f32} {h2 : a2.IsWhole} {h3} {R : sProp 𝕄} {Q}
    (h : iprop(waits m K c 8 ∗ R) ⊢ Q ⟨⟩) :
    iprop(waits m K c 5 ∗ R) ⊢ WP c (k0_part3 (F := F) i a1 h1 a2 h2 (Memref.whole cc0_scratch0) h3 cc0_scratch1 cc0_scratch2 c v2 h5) Q := by
  rw [k0_part3_eq_skeleton]; unfold k0_part3_skel
  simp only [Prog.lift, Prog.bind_op, Prog.pure_eq_ret, Prog.bind_ret]
  exact wait_send m K c 0 2 rfl (wait_recv m K c 1 0 rfl (wait_send m K c 1 0 rfl ((ret_of h))))

theorem part4_wp (K : Dev nD × Cell → ℕ) (c : Dev nD) (i : grid0.Coords) (v2 : BitVec 32) (h5 : k0_cond5 i = 1#1)
    {a1 : Memref sig .tc .vmem S8192x128 .f32} {h1 : a1.IsWhole} {a2 : Memref sig .tc .vmem S2x1024 .f32} {h2 : a2.IsWhole} {h3} {R : sProp 𝕄} {Q}
    (h : iprop(waits m K c 11 ∗ R) ⊢ Q ⟨⟩) :
    iprop(waits m K c 8 ∗ R) ⊢ WP c (k0_part4 (F := F) i a1 h1 a2 h2 (Memref.whole cc0_scratch0) h3 cc0_scratch1 cc0_scratch2 c v2 h5) Q := by
  rw [k0_part4_eq_skeleton]; unfold k0_part4_skel
  simp only [Prog.lift, Prog.bind_op, Prog.pure_eq_ret, Prog.bind_ret]
  exact wait_recv m K c 1 1 rfl (wait_send m K c 1 1 rfl (wait_recv m K c 1 2 rfl ((ret_of h))))

theorem part5_wp (K : Dev nD × Cell → ℕ) (c : Dev nD) (i : grid0.Coords) (v2 : BitVec 32) (h5 : k0_cond5 i = 1#1)
    {a1 : Memref sig .tc .vmem S8192x128 .f32} {h1 : a1.IsWhole} {a2 : Memref sig .tc .vmem S2x1024 .f32} {h2 : a2.IsWhole} {h3} {R : sProp 𝕄} {Q}
    (h : ∀ a, iprop(waits m K c 14 ∗ R) ⊢ Q a) :
    iprop(waits m K c 11 ∗ R) ⊢ WP c (k0_part5 (F := F) i a1 h1 a2 h2 (Memref.whole cc0_scratch0) h3 cc0_scratch1 cc0_scratch2 c v2 h5) Q := by
  rw [k0_part5_eq_skeleton]; unfold k0_part5_skel
  simp only [Prog.lift, Prog.bind_op, Prog.pure_eq_ret, Prog.bind_ret]
  exact wait_send m K c 1 2 rfl (wait_recv m K c 2 0 rfl (wait_send m K c 2 0 rfl ((ret_of (h _)))))

theorem part6_wp (K : Dev nD × Cell → ℕ) (c : Dev nD) (i : grid0.Coords) (v2 : BitVec 32) (h5 : k0_cond5 i = 1#1) (v221 c0 : BitVec 32)
    {a1 : Memref sig .tc .vmem S8192x128 .f32} {h1 : a1.IsWhole} {a2 : Memref sig .tc .vmem S2x1024 .f32} {h2 : a2.IsWhole} {h3} {R : sProp 𝕄} {Q}
    (h : iprop(waits m K c 17 ∗ R) ⊢ Q ⟨⟩) :
    iprop(waits m K c 14 ∗ R) ⊢ WP c (k0_part6 (F := F) i a1 h1 a2 h2 (Memref.whole cc0_scratch0) h3 cc0_scratch1 cc0_scratch2 c v2 h5 v221 c0) Q := by
  rw [k0_part6_eq_skeleton]; unfold k0_part6_skel
  simp only [Prog.lift, Prog.bind_op, Prog.pure_eq_ret, Prog.bind_ret]
  exact wait_recv m K c 2 1 rfl (wait_send m K c 2 1 rfl (wait_recv m K c 2 2 rfl ((ret_of h))))

theorem part7_wp (K : Dev nD × Cell → ℕ) (c : Dev nD) (i : grid0.Coords) (v2 : BitVec 32) (h5 : k0_cond5 i = 1#1)
    {a1 : Memref sig .tc .vmem S8192x128 .f32} {h1 : a1.IsWhole} {a2 : Memref sig .tc .vmem S2x1024 .f32} {h2 : a2.IsWhole} {h3} {R : sProp 𝕄} {Q}
    (h : ∀ a, iprop(waits m K c 20 ∗ R) ⊢ Q a) :
    iprop(waits m K c 17 ∗ R) ⊢ WP c (k0_part7 (F := F) i a1 h1 a2 h2 (Memref.whole cc0_scratch0) h3 cc0_scratch1 cc0_scratch2 c v2 h5) Q := by
  rw [k0_part7_eq_skeleton]; unfold k0_part7_skel
  simp only [Prog.lift, Prog.bind_op, Prog.pure_eq_ret, Prog.bind_ret]
  exact wait_send m K c 2 2 rfl (wait_recv m K c 3 0 rfl (wait_send m K c 3 0 rfl ((ret_of (h _)))))

theorem part8_wp (K : Dev nD × Cell → ℕ) (c : Dev nD) (i : grid0.Coords) (v2 : BitVec 32) (h5 : k0_cond5 i = 1#1) (v221 : BitVec 32)
    {a1 : Memref sig .tc .vmem S8192x128 .f32} {h1 : a1.IsWhole} {a2 : Memref sig .tc .vmem S2x1024 .f32} {h2 : a2.IsWhole} {h3} {R : sProp 𝕄} {Q}
    (h : iprop(waits m K c 23 ∗ R) ⊢ Q ⟨⟩) :
    iprop(waits m K c 20 ∗ R) ⊢ WP c (k0_part8 (F := F) i a1 h1 a2 h2 (Memref.whole cc0_scratch0) h3 cc0_scratch1 cc0_scratch2 c v2 h5 v221) Q := by
  rw [k0_part8_eq_skeleton]; unfold k0_part8_skel
  simp only [Prog.lift, Prog.bind_op, Prog.pure_eq_ret, Prog.bind_ret]
  exact wait_recv m K c 3 1 rfl (wait_send m K c 3 1 rfl (wait_recv m K c 3 2 rfl ((ret_of h))))

theorem part9_wp (K : Dev nD × Cell → ℕ) (c : Dev nD) (i : grid0.Coords) (v2 : BitVec 32) (h5 : k0_cond5 i = 1#1)
    {a1 : Memref sig .tc .vmem S8192x128 .f32} {h1 : a1.IsWhole} {a2 : Memref sig .tc .vmem S2x1024 .f32} {h2 : a2.IsWhole} {h3} {R : sProp 𝕄} {Q}
    (h : ∀ a, iprop(waits m K c 26 ∗ R) ⊢ Q a) :
    iprop(waits m K c 23 ∗ R) ⊢ WP c (k0_part9 (F := F) i a1 h1 a2 h2 (Memref.whole cc0_scratch0) h3 cc0_scratch1 cc0_scratch2 c v2 h5) Q := by
  rw [k0_part9_eq_skeleton]; unfold k0_part9_skel
  simp only [Prog.lift, Prog.bind_op, Prog.pure_eq_ret, Prog.bind_ret]
  exact wait_send m K c 3 2 rfl (wait_recv m K c 4 0 rfl (wait_send m K c 4 0 rfl ((ret_of (h _)))))

theorem part10_wp (K : Dev nD × Cell → ℕ) (c : Dev nD) (i : grid0.Coords) (v2 : BitVec 32) (h5 : k0_cond5 i = 1#1) (v221 : BitVec 32)
    {a1 : Memref sig .tc .vmem S8192x128 .f32} {h1 : a1.IsWhole} {a2 : Memref sig .tc .vmem S2x1024 .f32} {h2 : a2.IsWhole} {h3} {R : sProp 𝕄} {Q}
    (h : iprop(waits m K c 29 ∗ R) ⊢ Q ⟨⟩) :
    iprop(waits m K c 26 ∗ R) ⊢ WP c (k0_part10 (F := F) i a1 h1 a2 h2 (Memref.whole cc0_scratch0) h3 cc0_scratch1 cc0_scratch2 c v2 h5 v221) Q := by
  rw [k0_part10_eq_skeleton]; unfold k0_part10_skel
  simp only [Prog.lift, Prog.bind_op, Prog.pure_eq_ret, Prog.bind_ret]
  exact wait_recv m K c 4 1 rfl (wait_send m K c 4 1 rfl (wait_recv m K c 4 2 rfl ((ret_of h))))

theorem part11_wp (K : Dev nD × Cell → ℕ) (c : Dev nD) (i : grid0.Coords) (v2 : BitVec 32) (h5 : k0_cond5 i = 1#1)
    {a1 : Memref sig .tc .vmem S8192x128 .f32} {h1 : a1.IsWhole} {a2 : Memref sig .tc .vmem S2x1024 .f32} {h2 : a2.IsWhole} {h3} {R : sProp 𝕄} {Q}
    (h : ∀ a, iprop(waits m K c 32 ∗ R) ⊢ Q a) :
    iprop(waits m K c 29 ∗ R) ⊢ WP c (k0_part11 (F := F) i a1 h1 a2 h2 (Memref.whole cc0_scratch0) h3 cc0_scratch1 cc0_scratch2 c v2 h5) Q := by
  rw [k0_part11_eq_skeleton]; unfold k0_part11_skel
  simp only [Prog.lift, Prog.bind_op, Prog.pure_eq_ret, Prog.bind_ret]
  exact wait_send m K c 4 2 rfl (wait_recv m K c 5 0 rfl (wait_send m K c 5 0 rfl ((ret_of (h _)))))

theorem part12_wp (K : Dev nD × Cell → ℕ) (c : Dev nD) (i : grid0.Coords) (v2 : BitVec 32) (h5 : k0_cond5 i = 1#1) (v221 : BitVec 32)
    {a1 : Memref sig .tc .vmem S8192x128 .f32} {h1 : a1.IsWhole} {a2 : Memref sig .tc .vmem S2x1024 .f32} {h2 : a2.IsWhole} {h3} {R : sProp 𝕄} {Q}
    (h : iprop(waits m K c 34 ∗ R) ⊢ Q ⟨⟩) :
    iprop(waits m K c 32 ∗ R) ⊢ WP c (k0_part12 (F := F) i a1 h1 a2 h2 (Memref.whole cc0_scratch0) h3 cc0_scratch1 cc0_scratch2 c v2 h5 v221) Q := by
  rw [k0_part12_eq_skeleton]; unfold k0_part12_skel
  simp only [Prog.lift, Prog.bind_op, Prog.pure_eq_ret, Prog.bind_ret]
  exact wait_recv m K c 5 1 rfl (wait_send m K c 5 1 rfl ((ret_of h)))

theorem part13_wp (K : Dev nD × Cell → ℕ) (c : Dev nD) (i : grid0.Coords) (v2 : BitVec 32) (h5 : k0_cond5 i = 1#1)
    {a1 : Memref sig .tc .vmem S8192x128 .f32} {h1 : a1.IsWhole} {a2 : Memref sig .tc .vmem S2x1024 .f32} {h2 : a2.IsWhole} {h3} {R : sProp 𝕄} {Q}
    (h : ∀ a, iprop(waits m K c 38 ∗ R) ⊢ Q a) :
    iprop(waits m K c 34 ∗ R) ⊢ WP c (k0_part13 (F := F) i a1 h1 a2 h2 (Memref.whole cc0_scratch0) h3 cc0_scratch1 cc0_scratch2 c v2 h5) Q := by
  rw [k0_part13_eq_skeleton]; unfold k0_part13_skel
  simp only [Prog.lift, Prog.bind_op, Prog.pure_eq_ret, Prog.bind_ret]
  exact wait_recv m K c 5 2 rfl (wait_send m K c 5 2 rfl (wait_recv m K c 6 0 rfl (wait_send m K c 6 0 rfl ((ret_of (h _))))))

theorem part14_wp (K : Dev nD × Cell → ℕ) (c : Dev nD) (i : grid0.Coords) (v2 : BitVec 32) (h5 : k0_cond5 i = 1#1) (v221 : BitVec 32)
    {a1 : Memref sig .tc .vmem S8192x128 .f32} {h1 : a1.IsWhole} {a2 : Memref sig .tc .vmem S2x1024 .f32} {h2 : a2.IsWhole} {h3} {R : sProp 𝕄} {Q}
    (h : iprop(waits m K c 40 ∗ R) ⊢ Q ⟨⟩) :
    iprop(waits m K c 38 ∗ R) ⊢ WP c (k0_part14 (F := F) i a1 h1 a2 h2 (Memref.whole cc0_scratch0) h3 cc0_scratch1 cc0_scratch2 c v2 h5 v221) Q := by
  rw [k0_part14_eq_skeleton]; unfold k0_part14_skel
  simp only [Prog.lift, Prog.bind_op, Prog.pure_eq_ret, Prog.bind_ret]
  exact wait_recv m K c 6 1 rfl (wait_send m K c 6 1 rfl ((ret_of h)))

theorem part15_wp (K : Dev nD × Cell → ℕ) (c : Dev nD) (i : grid0.Coords) (v2 : BitVec 32) (h5 : k0_cond5 i = 1#1)
    {a1 : Memref sig .tc .vmem S8192x128 .f32} {h1 : a1.IsWhole} {a2 : Memref sig .tc .vmem S2x1024 .f32} {h2 : a2.IsWhole} {h3} {R : sProp 𝕄} {Q}
    (h : iprop(waits m K c 43 ∗ R) ⊢ Q ⟨⟩) :
    iprop(waits m K c 40 ∗ R) ⊢ WP c (k0_part15 (F := F) i a1 h1 a2 h2 (Memref.whole cc0_scratch0) h3 cc0_scratch1 cc0_scratch2 c v2 h5) Q := by
  rw [k0_part15_eq_skeleton]; unfold k0_part15_skel
  simp only [Prog.lift, Prog.bind_op, Prog.pure_eq_ret, Prog.bind_ret]
  exact wait_recv m K c 6 2 rfl (wait_send m K c 6 2 rfl (wait_recv m K c 7 0 rfl ((ret_of h))))

theorem part16_wp (K : Dev nD × Cell → ℕ) (c : Dev nD) (i : grid0.Coords) (v2 : BitVec 32) (h5 : k0_cond5 i = 1#1)
    {a1 : Memref sig .tc .vmem S8192x128 .f32} {h1 : a1.IsWhole} {a2 : Memref sig .tc .vmem S2x1024 .f32} {h2 : a2.IsWhole} {h3} {R : sProp 𝕄} {Q}
    (h : iprop(waits m K c 46 ∗ R) ⊢ Q ⟨⟩) :
    iprop(waits m K c 43 ∗ R) ⊢ WP c (k0_part16 (F := F) i a1 h1 a2 h2 (Memref.whole cc0_scratch0) h3 cc0_scratch1 cc0_scratch2 c v2 h5) Q := by
  rw [k0_part16_eq_skeleton]; unfold k0_part16_skel
  simp only [Prog.lift, Prog.bind_op, Prog.pure_eq_ret, Prog.bind_ret]
  exact wait_send m K c 7 0 rfl (wait_recv m K c 7 1 rfl (wait_send m K c 7 1 rfl ((ret_of h))))

/-! ## What the waits leave -/

omit [FloatOps F] in
/-- The copy cells, receive and send. -/
theorem bigSep_cells (Φ : Bool × Fin 8 × Fin 3 → sProp 𝕄) :
    bigSep Finset.univ Φ = iprop((bigSep Finset.univ fun g : Fin 8 => bigSep Finset.univ fun o : Fin 3 => Φ (true, g, o))
      ∗ bigSep Finset.univ fun g : Fin 8 => bigSep Finset.univ fun o : Fin 3 => Φ (false, g, o)) := by
  rw [bigSep_univ_prod, bigSep_univ_eq_bigSepL [true, false] (by decide) (by decide)]
  show iprop(bigSep Finset.univ _ ∗ bigSep Finset.univ _) = _
  rw [bigSep_univ_prod, bigSep_univ_prod]

/-- After the waits: every copy cell at its second round, nothing owed. -/
def waited (K : Dev nD × Cell → ℕ) (c : Dev nD) : sProp 𝕄 :=
  iprop(records m K ∗ owesE c 0 ∗ bigSep Finset.univ fun p : Bool × Fin 8 × Fin 3 => atPos ER (kcell (c, some p)) 1 ∅ 0)

/-- One chunk's landings and returned thirds are its four slots. -/
theorem chunk_join (c : Dev nD) (g : Fin 8) :
    iprop((bigSep Finset.univ fun o : Fin 3 => recvPay m c g o) ∗ bigSep Finset.univ fun o : Fin 3 => sendPay m c g o)
      ⊢ bigSep Finset.univ fun s : Dev nD => slotPts c s g fullShare (GAb m c) := by
  rw [bigSep_devs c, Ring.bigSep_fin3, Ring.bigSep_fin3]
  unfold recvPay sendPay
  have e : iprop(slotPts c c g (Ring.shares3 fullShare 0) (GAb m c) ∗ slotPts c c g (Ring.shares3 fullShare 1) (GAb m c) ∗ slotPts c c g (Ring.shares3 fullShare 2) (GAb m c))
      ⊢ slotPts c c g fullShare (GAb m c) := by unfold slotPts; exact (Ring.pointsTo_thirds _ _).2
  iintro ⟨⟨H2, H1, H0⟩, HS⟩
  isplitl [HS]; · iapply e; iexact HS
  isplitl [H0]; · iexact H0
  isplitl [H1]; · iexact H1
  iexact H2

theorem waits_done (K : Dev nD × Cell → ℕ) (c : Dev nD) :
    waits m K c 48 ⊢ iprop(waited m K c ∗ gLoc c ↦{fullShare} GAb m c) := by
  have e1 : (bigSep Finset.univ fun p => waitAt m c 48 p) = iprop((bigSep Finset.univ fun p => cellPay m c 0 (some (some p)))
      ∗ bigSep Finset.univ fun p : Bool × Fin 8 × Fin 3 => atPos ER (kcell (c, some p)) 1 ∅ 0) := by
    rw [← bigSep_sep']
    refine bigSep_congr fun p _ => if_pos ?_
    obtain ⟨b, g, o⟩ := p
    have := g.2; have := o.2
    unfold widx
    show 2 * (3 * g.val + o.val) + _ < 48
    split <;> omega
  have e2 : (bigSep Finset.univ fun p => cellPay m c 0 (some (some p))) ⊢ (gLoc c ↦{fullShare} GAb m c) := by
    rw [gather_slots, bigSep_univ_prod (fun p : Dev nD × Fin 8 => slotPts c p.1 p.2 fullShare (GAb m c)),
      bigSep_exchange _ _ (fun (s : Dev nD) (g : Fin 8) => slotPts c s g fullShare (GAb m c)), bigSep_cells, ← bigSep_sep']
    exact bigSep_mono fun g _ => chunk_join m c g
  unfold waits waited
  rw [e1]
  iintro ⟨#HK, HO, Hp, Ha⟩
  isplitr [Hp]
  · isplitr; · iexact HK
    isplitl [HO]; · iexact HO
    iexact Ha
  · iapply e2; iexact Hp

theorem part17_wp (K : Dev nD × Cell → ℕ) (c : Dev nD) (i : grid0.Coords) (h5 : k0_cond5 i = 1#1)
    {a1 : Memref sig .tc .vmem S8192x128 .f32} {h1 : a1.IsWhole} {a2 : Memref sig .tc .vmem S2x1024 .f32} {h2 : a2.IsWhole} {h3} {R : sProp 𝕄} {Q}
    (h : iprop(waited m K c ∗ (gLoc c ↦{fullShare} GAb m c) ∗ R) ⊢ Q ⟨GA m, k0_pay9 (GA m), k0_pay10 (GA m)⟩) :
    iprop(waits m K c 46 ∗ R) ⊢ WP c (k0_part17 (F := F) i a1 h1 a2 h2 (Memref.whole cc0_scratch0) h3 cc0_scratch1 cc0_scratch2 c h5) Q := by
  rw [k0_part17_eq_skeleton]; unfold k0_part17_skel
  simp only [Prog.lift, Prog.bind_op, Prog.pure_eq_ret, Prog.bind_ret]
  refine wait_recv m K c 7 2 (n := 46) rfl (wait_send m K c 7 2 (n := 47) rfl (show (_ : sProp 𝕄) ⊢ _ from ?_))
  iintro ⟨Hw, HR⟩
  ihave Hw := (waits_done m K c) $$ Hw
  icases Hw with ⟨Hw, Hg⟩
  iapply (wp_load 𝒱₀ (c : Thread nD τ) none Set.univ (m := Memref.whole cc0_scratch0) (Finset.subset_univ _)) $$ Hg; iintro Hg
  have e : (Memref.whole cc0_scratch0 : Memref sig .tc .vmem S4x8x2x128 .f32).view.readAt (Elt F) (Rect.unit (s := S4x8x2x128) ![0, 0, 0, 0] S4x8x2x128.size inb_S4x8x2x128_S4x8x2x128_0_0_0_0).toLoadRect (GAb m c) = GA m :=
    Memref.readAt_unit_zero (Elt F) cc0_scratch0 (funext fun a => by fin_cases a <;> rfl) _ _
  rw [e]
  iapply (ret_of h)
  isplitl [Hw]; · iexact Hw
  isplitl [Hg]; · iexact Hg
  iexact HR

end Cert.KernelIdeal.Run

end
-- ==== Proof.KernelIdeal.Combine.lean ====
/-
The last chunk's combination of the four devices' rows, and its stores into the output's staging buffer.
-/
module

public import proofs.«01_k».proof.Proof.KernelIdeal.Waits

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-! ## What is combined -/

omit [FloatOps F] in
theorem sl_fits (s : Fin 4) (g : Fin 8) (r : Fin 2) : S4x8x2x128.Slices ![s.val, g.val, r.val, 0] S1x1x1x128 := by
  have := s.2; have := g.2; have := r.2
  refine ⟨rfl, fun a => ?_⟩
  match a with
  | ⟨0, _⟩ => show s.val + 1 ≤ 4; omega
  | ⟨1, _⟩ => show g.val + 1 ≤ 8; omega
  | ⟨2, _⟩ => show r.val + 1 ≤ 2; omega
  | ⟨3, _⟩ => show 0 + 128 ≤ 128; omega

/-- Row `r` of device `s`'s slot of chunk `g`. -/
def sl (v : Vec F S4x8x2x128 .f32) (s : Fin 4) (g : Fin 8) (r : Fin 2) : FVec F S128 .f32 :=
  shapeCast S128 (extractStridedSlice S1x1x1x128 ![s.val, g.val, r.val, 0] v (sl_fits s g r)) shapeCasts_S1x1x1x128_S128

/-- Whether device 1's value beats device 0's. -/
def b1 (v : Vec F S4x8x2x128 .f32) (g : Fin 8) : IVec S128 1 := cmpf .ogt (sl v 1 g 0) (sl v 0 g 0)
/-- The best value of devices 0 and 1. -/
def v1 (v : Vec F S4x8x2x128 .f32) (g : Fin 8) : FVec F S128 .f32 := select (b1 v g) (sl v 1 g 0) (sl v 0 g 0)
/-- Whether device 2's value beats that. -/
def b2 (v : Vec F S4x8x2x128 .f32) (g : Fin 8) : IVec S128 1 := cmpf .ogt (sl v 2 g 0) (v1 v g)
/-- The best value of devices 0 to 2. -/
def v2 (v : Vec F S4x8x2x128 .f32) (g : Fin 8) : FVec F S128 .f32 := select (b2 v g) (sl v 2 g 0) (v1 v g)
/-- Whether device 3's value beats that. -/
def b3 (v : Vec F S4x8x2x128 .f32) (g : Fin 8) : IVec S128 1 := cmpf .ogt (sl v 3 g 0) (v2 v g)

/-- The two rows the combination stores for chunk `g`: the best value and the index it carries. -/
def comb (v : Vec F S4x8x2x128 .f32) (r : Fin 2) (g : Fin 8) : FVec F S128 .f32 :=
  match r with
  | 0 => select (b3 v g) (sl v 3 g 0) (v2 v g)
  | 1 => select (b3 v g) (sl v 3 g 1) (select (b2 v g) (sl v 2 g 1) (select (b1 v g) (sl v 1 g 1) (sl v 0 g 1)))

/-- The row as it is stored. -/
def combRow (v : Vec F S4x8x2x128 .f32) (r : Fin 2) (g : Fin 8) : FVec F S1x128 .f32 :=
  shapeCast S1x128 (comb v r g) shapeCasts_S128_S1x128

/-- The kernel's output, on every device. -/
def outAt : S2x1024.Idx → F .f32 := fun i =>
  combRow (GA m) (i 0) ⟨(i 1).val / 128, by have : (i 1).val < 1024 := (i 1).2; omega⟩ (ix2 0 ⟨(i 1).val % 128, Nat.mod_lt _ (by omega)⟩)

theorem outAt_of (r : Fin 2) (g : Fin 8) (x : Fin 128) (i : S2x1024.Idx) (h0 : (i 0).val = r.val) (h1 : (i 1).val = 128 * g.val + x.val) :
    outAt m i = combRow (GA m) r g (ix2 0 x) := by
  have hg := g.2; have hx := x.2
  have e0 : i 0 = r := Fin.ext h0
  have e1 : (⟨(i 1).val / 128, by omega⟩ : Fin 8) = g := Fin.ext (by show (i 1).val / 128 = g.val; omega)
  have e2 : (⟨(i 1).val % 128, Nat.mod_lt _ (by omega)⟩ : Fin 128) = x := Fin.ext (by show (i 1).val % 128 = x.val; omega)
  unfold outAt
  rw [e1, e2]
  exact congrArg (fun r => combRow (GA m) r g (ix2 0 x)) e0

/-! ## The output's staging buffer -/

/-- The output's staging buffer when `n` of its sixteen rows of chunks are stored. -/
def outPts (c : Dev nD) (n : ℕ) : sProp 𝕄 :=
  iprop(∃ f : Buf (Elt F) (c.tc.loc cc0_stg1_0), ⌜∀ i : S2x1024.Idx, 2 * ((i 1).val / 128) + (i 0).val < n → f i = outAt m i⌝
    ∗ ((c.tc.loc cc0_stg1_0) ↦{fullShare} f))

/-- The load and store of row `r` of chunk `g`. -/
theorem step_out (c : Dev nD) (g : Fin 8) (r : Fin 2) {n : ℕ} (hn : 2 * g.val + r.val = n) {off : Fin 2 → ℕ}
    {w : FVec F S1x128 .f32} (hw : w = combRow (GA m) r g) {inb} {hl} {hx} {hm}
    {α : Type} {k : PUnit → Prog (TpuEff nD τ sig (Elt F) Λ₀ .tc) α} {Q : α → sProp 𝕄} {R : sProp 𝕄}
    (h : iprop(outPts m c (n + 1) ∗ R) ⊢ WP c (k ⟨⟩) Q) (hoff : off = ![r.val, 128 * g.val] := by rfl) :
    iprop(outPts m c n ∗ R)
      ⊢ WP c (.op (.load (Memref.whole cc0_stg1_0) (Rect.unit (s := S2x1024) off S1x128.size inb).toLoadRect hl)
            fun _ => .op (.store (Memref.whole cc0_stg1_0) (Rect.unit (s := S2x1024) off S1x128.size inb) w Finset.univ hx hm) k) Q := by
  subst hoff hn hw
  unfold outPts
  unfold outPts at h
  iintro ⟨⟨%f, %hf, Hs⟩, HR⟩
  iapply (wp_load_rect 𝒱₀ (c : Thread nD τ) none Set.univ (m := Memref.whole cc0_stg1_0) (r := Rect.unit (s := S2x1024) ![r.val, 128 * g.val] S1x128.size inb) (Finset.subset_univ _)) $$ Hs; iintro Hs
  iapply (wp_store 𝒱₀ (c : Thread nD τ) none Set.univ (m := Memref.whole cc0_stg1_0) (r := Rect.unit (s := S2x1024) ![r.val, 128 * g.val] S1x128.size inb) (Mk := Finset.univ) (Finset.subset_univ _)) $$ Hs; iintro Hs
  iapply h
  isplitr [HR]
  · iexists _
    isplitr
    · ipureintro
      intro i hi
      have hi1 : (i 1).val < 1024 := (i 1).2
      have hi0 : (i 0).val < 2 := (i 0).2
      have hr := r.2
      by_cases hc : (i 0).val = r.val ∧ (i 1).val / 128 = g.val
      · have hx : (i 1).val - 128 * g.val < 128 := by omega
        refine (write_unit_hit cc0_stg1_0 _ _ inb f _ i (ix2 0 ⟨(i 1).val - 128 * g.val, hx⟩) fun a => ?_).trans
          (outAt_of m r g ⟨(i 1).val - 128 * g.val, hx⟩ i hc.1 (by show (i 1).val = 128 * g.val + ((i 1).val - 128 * g.val); omega)).symm
        match a with
        | ⟨0, _⟩ => exact hc.1
        | ⟨1, _⟩ => show (i 1).val = 128 * g.val + ((i 1).val - 128 * g.val); omega
      · have hlt : 2 * ((i 1).val / 128) + (i 0).val < 2 * g.val + r.val := by omega
        refine Eq.trans ?_ (hf i hlt)
        by_cases h0 : (i 0).val = r.val
        · refine write_unit_miss cc0_stg1_0 _ _ inb f _ i (1 : Fin 2) ?_
          show ¬(128 * g.val ≤ (i 1).val ∧ (i 1).val < 128 * g.val + 128)
          omega
        · refine write_unit_miss cc0_stg1_0 _ _ inb f _ i (0 : Fin 2) ?_
          show ¬(r.val ≤ (i 0).val ∧ (i 0).val < r.val + 1)
          omega
    · iexact Hs
  · iexact HR

/-! ## The parts -/

theorem part18_wp (c : Dev nD) (i : grid0.Coords) {a1 : Memref sig .tc .vmem S8192x128 .f32} {h1 : a1.IsWhole} {h2} {h3} {R : sProp 𝕄} {Q}
    (h : iprop(outPts m c 4 ∗ R) ⊢ Q ⟨k0_pay21 (GA m), k0_pay22 (GA m), k0_pay23 (GA m)⟩) :
    iprop(outPts m c 0 ∗ R) ⊢ WP c (k0_part18 (F := F) i a1 h1 (Memref.whole cc0_stg1_0) h2 (Memref.whole cc0_scratch0) h3 cc0_scratch1 cc0_scratch2
      (GA m) (k0_pay9 (GA m)) (k0_pay10 (GA m))) Q := by
  rw [k0_part18_eq_skeleton]; unfold k0_part18_skel
  simp only [Prog.lift, Prog.bind_op, Prog.pure_eq_ret, Prog.bind_ret]
  exact step_out m c 0 0 rfl rfl (step_out m c 0 1 rfl rfl (step_out m c 1 0 rfl rfl (step_out m c 1 1 rfl rfl (ret_of h))))

theorem part19_wp (c : Dev nD) (i : grid0.Coords) {a1 : Memref sig .tc .vmem S8192x128 .f32} {h1 : a1.IsWhole} {h2} {h3} {R : sProp 𝕄} {Q}
    (h : iprop(outPts m c 6 ∗ R) ⊢ Q ⟨k0_pay35 (GA m), k0_pay36 (GA m)⟩) :
    iprop(outPts m c 4 ∗ R) ⊢ WP c (k0_part19 (F := F) i a1 h1 (Memref.whole cc0_stg1_0) h2 (Memref.whole cc0_scratch0) h3 cc0_scratch1 cc0_scratch2
      (GA m) (k0_pay21 (GA m)) (k0_pay22 (GA m)) (k0_pay23 (GA m))) Q := by
  rw [k0_part19_eq_skeleton]; unfold k0_part19_skel
  simp only [Prog.lift, Prog.bind_op, Prog.pure_eq_ret, Prog.bind_ret]
  exact step_out m c 2 0 rfl rfl (step_out m c 2 1 rfl rfl (ret_of h))

theorem part20_wp (c : Dev nD) (i : grid0.Coords) {a1 : Memref sig .tc .vmem S8192x128 .f32} {h1 : a1.IsWhole} {h2} {h3} {R : sProp 𝕄} {Q}
    (h : iprop(outPts m c 9 ∗ R) ⊢ Q (k0_pay46 (GA m))) :
    iprop(outPts m c 6 ∗ R) ⊢ WP c (k0_part20 (F := F) i a1 h1 (Memref.whole cc0_stg1_0) h2 (Memref.whole cc0_scratch0) h3 cc0_scratch1 cc0_scratch2
      (GA m) (k0_pay35 (GA m)) (k0_pay36 (GA m))) Q := by
  rw [k0_part20_eq_skeleton]; unfold k0_part20_skel
  simp only [Prog.lift, Prog.bind_op, Prog.pure_eq_ret, Prog.bind_ret]
  exact step_out m c 3 0 rfl rfl (step_out m c 3 1 rfl rfl (step_out m c 4 0 rfl rfl (ret_of h)))

theorem part21_wp (c : Dev nD) (i : grid0.Coords) {a1 : Memref sig .tc .vmem S8192x128 .f32} {h1 : a1.IsWhole} {h2} {h3} {R : sProp 𝕄} {Q}
    (h : iprop(outPts m c 12 ∗ R) ⊢ Q ⟨k0_pay59 (GA m), k0_pay60 (GA m)⟩) :
    iprop(outPts m c 9 ∗ R) ⊢ WP c (k0_part21 (F := F) i a1 h1 (Memref.whole cc0_stg1_0) h2 (Memref.whole cc0_scratch0) h3 cc0_scratch1 cc0_scratch2
      (GA m) (k0_pay46 (GA m))) Q := by
  rw [k0_part21_eq_skeleton]; unfold k0_part21_skel
  simp only [Prog.lift, Prog.bind_op, Prog.pure_eq_ret, Prog.bind_ret]
  exact step_out m c 4 1 rfl rfl (step_out m c 5 0 rfl rfl (step_out m c 5 1 rfl rfl (ret_of h)))

theorem part22_wp (c : Dev nD) (i : grid0.Coords) {a1 : Memref sig .tc .vmem S8192x128 .f32} {h1 : a1.IsWhole} {h2} {h3} {R : sProp 𝕄} {Q}
    (h : iprop(outPts m c 14 ∗ R) ⊢ Q ⟨k0_pay71 (GA m), k0_pay72 (GA m), k0_pay73 (GA m), k0_pay74 (GA m)⟩) :
    iprop(outPts m c 12 ∗ R) ⊢ WP c (k0_part22 (F := F) i a1 h1 (Memref.whole cc0_stg1_0) h2 (Memref.whole cc0_scratch0) h3 cc0_scratch1 cc0_scratch2
      (GA m) (k0_pay59 (GA m)) (k0_pay60 (GA m))) Q := by
  rw [k0_part22_eq_skeleton]; unfold k0_part22_skel
  simp only [Prog.lift, Prog.bind_op, Prog.pure_eq_ret, Prog.bind_ret]
  exact step_out m c 6 0 rfl rfl (step_out m c 6 1 rfl rfl (ret_of h))

theorem pay1_comb : k0_pay1 (k0_pay73 (GA m)) = combRow (GA m) 0 7 := rfl

theorem pay2_comb : k0_pay2 (k0_pay71 (GA m)) (k0_pay72 (GA m)) (k0_pay74 (GA m)) = combRow (GA m) 1 7 := rfl

/-- All sixteen rows stored: the staging buffer is the output. -/
theorem outPts_all (c : Dev nD) : outPts m c 16 ⊢ ((c.tc.loc cc0_stg1_0) ↦{fullShare} (outAt m : Buf (Elt F) (c.tc.loc cc0_stg1_0))) := by
  unfold outPts
  iintro ⟨%f, %hf, H⟩
  have e : f = outAt m := funext fun i => hf i (by
    have hi1 : (i 1).val < 1024 := (i 1).2
    have hi0 : (i 0).val < 2 := (i 0).2
    omega)
  rw [e]; iexact H

end Cert.KernelIdeal.Run

end
-- ==== Proof.KernelIdeal.Last.lean ====
/-
The last chunk after its copies: all the waits, the whole gather buffer, the combination, the counters back at zero.
-/
module

public import proofs.«01_k».proof.Proof.KernelIdeal.Combine

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-- One program after another. -/
theorem wp_seq {c : Dev nD} {P : sProp 𝕄} {α β : Type} {p : Prog (TpuEff nD τ sig (Elt F) Λ₀ .tc) α} {k : α → Prog (TpuEff nD τ sig (Elt F) Λ₀ .tc) β}
    {Q : β → sProp 𝕄} (h : P ⊢ WP c p fun a => WP c (k a) Q) : P ⊢ WP c (p >>= k) Q := by
  rw [WP, wp_bind]; exact h

/-- The last chunk's program after its copies. -/
noncomputable def lastProg (i : grid0.Coords) (arg1 : Memref sig .tc .vmem S8192x128 .f32) (harg1 : arg1.IsWhole) (arg2 : Memref sig .tc .vmem S2x1024 .f32) (harg2 : arg2.IsWhole)
    (arg3 : Memref sig .tc .vmem S4x8x2x128 .f32) (harg3 : arg3.IsWhole) (arg4 : DmaSems sig S8x3) (arg5 : DmaSems sig S8x3) (d0 : Dev nD) (w : BitVec 32)
    (h5 : k0_cond5 i = 1#1) : Prog (TpuEff nD τ sig (Elt F) Λ₀ .tc) PUnit := do
  k0_part1 i arg1 harg1 arg2 harg2 arg3 harg3 arg4 arg5 d0 w h5
  k0_part2 i arg1 harg1 arg2 harg2 arg3 harg3 arg4 arg5 d0 w h5
  k0_part3 i arg1 harg1 arg2 harg2 arg3 harg3 arg4 arg5 d0 w h5
  k0_part4 i arg1 harg1 arg2 harg2 arg3 harg3 arg4 arg5 d0 w h5
  let a ← k0_part5 i arg1 harg1 arg2 harg2 arg3 harg3 arg4 arg5 d0 w h5
  k0_part6 i arg1 harg1 arg2 harg2 arg3 harg3 arg4 arg5 d0 w h5 a.1 a.2
  let a ← k0_part7 i arg1 harg1 arg2 harg2 arg3 harg3 arg4 arg5 d0 w h5
  k0_part8 i arg1 harg1 arg2 harg2 arg3 harg3 arg4 arg5 d0 w h5 a
  let a ← k0_part9 i arg1 harg1 arg2 harg2 arg3 harg3 arg4 arg5 d0 w h5
  k0_part10 i arg1 harg1 arg2 harg2 arg3 harg3 arg4 arg5 d0 w h5 a
  let a ← k0_part11 i arg1 harg1 arg2 harg2 arg3 harg3 arg4 arg5 d0 w h5
  k0_part12 i arg1 harg1 arg2 harg2 arg3 harg3 arg4 arg5 d0 w h5 a
  let a ← k0_part13 i arg1 harg1 arg2 harg2 arg3 harg3 arg4 arg5 d0 w h5
  k0_part14 i arg1 harg1 arg2 harg2 arg3 harg3 arg4 arg5 d0 w h5 a
  k0_part15 i arg1 harg1 arg2 harg2 arg3 harg3 arg4 arg5 d0 w h5
  k0_part16 i arg1 harg1 arg2 harg2 arg3 harg3 arg4 arg5 d0 w h5
  let v ← k0_part17 i arg1 harg1 arg2 harg2 arg3 harg3 arg4 arg5 d0 h5
  let a ← k0_part18 i arg1 harg1 arg2 harg2 arg3 harg3 arg4 arg5 v.1 v.2.1 v.2.2
  let a ← k0_part19 i arg1 harg1 arg2 harg2 arg3 harg3 arg4 arg5 v.1 a.1 a.2.1 a.2.2
  let a ← k0_part20 i arg1 harg1 arg2 harg2 arg3 harg3 arg4 arg5 v.1 a.1 a.2
  let a ← k0_part21 i arg1 harg1 arg2 harg2 arg3 harg3 arg4 arg5 v.1 a
  let a ← k0_part22 i arg1 harg1 arg2 harg2 arg3 harg3 arg4 arg5 v.1 a.1 a.2
  let _v730 : Vec F S1x128 .f32 ← Prog.lift (.load arg2 (Rect.unit (s := S2x1024) ![0, 896] S1x128.size inb_S2x1024_S1x128_0_896).toLoadRect (View.loadsAt_vmem h_S1x128))
  Prog.lift (.store arg2 (Rect.unit (s := S2x1024) ![0, 896] S1x128.size inb_S2x1024_S1x128_0_896) (k0_pay1 a.2.2.1) Finset.univ (View.stores_vmem_bits_univ h_S1x128 rfl) (.inl rfl))
  let _v733 : Vec F S1x128 .f32 ← Prog.lift (.load arg2 (Rect.unit (s := S2x1024) ![1, 896] S1x128.size inb_S2x1024_S1x128_1_896).toLoadRect (View.loadsAt_vmem h_S1x128))
  Prog.lift (.store arg2 (Rect.unit (s := S2x1024) ![1, 896] S1x128.size inb_S2x1024_S1x128_1_896) (k0_pay2 a.1 a.2.1 a.2.2.2) Finset.univ (View.stores_vmem_bits_univ h_S1x128 rfl) (.inl rfl))
  pure ⟨⟩

/-- The last chunk: from nothing waited for and any output buffer to all waited for, the gather buffer and the output at their contents. -/
theorem last_wp (K : Dev nD × Cell → ℕ) (c : Dev nD) (i : grid0.Coords) (h5 : k0_cond5 i = 1#1)
    {a1 : Memref sig .tc .vmem S8192x128 .f32} {h1 : a1.IsWhole} {h2} {h3} {R : sProp 𝕄} {Q}
    (h : iprop(waited m K c ∗ (gLoc c ↦{fullShare} GAb m c) ∗ outPts m c 16 ∗ R) ⊢ |={Set.univ}=> Q ⟨⟩) :
    iprop(waits m K c 0 ∗ outPts m c 0 ∗ R)
      ⊢ WP c (lastProg i a1 h1 (Memref.whole cc0_stg1_0) h2 (Memref.whole cc0_scratch0) h3 cc0_scratch1 cc0_scratch2 c (devW c) h5) Q := by
  unfold lastProg
  refine wp_seq (part1_wp m K c i _ h5 ?_)
  refine wp_seq (part2_wp m K c i _ h5 ?_)
  refine wp_seq (part3_wp m K c i _ h5 ?_)
  refine wp_seq (part4_wp m K c i _ h5 ?_)
  refine wp_seq (part5_wp m K c i _ h5 fun a => ?_)
  refine wp_seq (part6_wp m K c i _ h5 _ _ ?_)
  refine wp_seq (part7_wp m K c i _ h5 fun a => ?_)
  refine wp_seq (part8_wp m K c i _ h5 _ ?_)
  refine wp_seq (part9_wp m K c i _ h5 fun a => ?_)
  refine wp_seq (part10_wp m K c i _ h5 _ ?_)
  refine wp_seq (part11_wp m K c i _ h5 fun a => ?_)
  refine wp_seq (part12_wp m K c i _ h5 _ ?_)
  refine wp_seq (part13_wp m K c i _ h5 fun a => ?_)
  refine wp_seq (part14_wp m K c i _ h5 _ ?_)
  refine wp_seq (part15_wp m K c i _ h5 ?_)
  refine wp_seq (part16_wp m K c i _ h5 ?_)
  refine wp_seq (part17_wp m K c i h5 ?_)
  have hre : iprop(waited m K c ∗ (gLoc c ↦{fullShare} GAb m c) ∗ outPts m c 0 ∗ R)
      ⊢ iprop(outPts m c 0 ∗ (waited m K c ∗ (gLoc c ↦{fullShare} GAb m c) ∗ R)) := by
    iintro ⟨H1, H2, H3, H4⟩
    isplitl [H3]; · iexact H3
    isplitl [H1]; · iexact H1
    isplitl [H2]; · iexact H2
    iexact H4
  have hre' : iprop(outPts m c 16 ∗ (waited m K c ∗ (gLoc c ↦{fullShare} GAb m c) ∗ R))
      ⊢ iprop(waited m K c ∗ (gLoc c ↦{fullShare} GAb m c) ∗ outPts m c 16 ∗ R) := by
    iintro ⟨H3, H1, H2, H4⟩
    isplitl [H1]; · iexact H1
    isplitl [H2]; · iexact H2
    isplitl [H3]; · iexact H3
    iexact H4
  refine hre.trans (wp_seq (part18_wp m c i ?_))
  refine wp_seq (part19_wp m c i ?_)
  refine wp_seq (part20_wp m c i ?_)
  refine wp_seq (part21_wp m c i ?_)
  refine wp_seq (part22_wp m c i ?_)
  simp only [Prog.lift, Prog.bind_op, Prog.pure_eq_ret, Prog.bind_ret]
  exact step_out m c 7 0 rfl (pay1_comb m) (step_out m c 7 1 rfl (pay2_comb m) (by rw [WP, wp_ret]; exact hre'.trans h))

/-- The same, for a buffer known to be the output's. -/
theorem last_wp' (K : Dev nD × Cell → ℕ) (c : Dev nD) (i : grid0.Coords) (h5 : k0_cond5 i = 1#1)
    {a1 : Memref sig .tc .vmem S8192x128 .f32} {h1 : a1.IsWhole} {a2 : Memref sig .tc .vmem S2x1024 .f32} (ha : a2 = Memref.whole cc0_stg1_0) {h2} {h3} {R : sProp 𝕄} {Q}
    (h : iprop(waited m K c ∗ (gLoc c ↦{fullShare} GAb m c) ∗ outPts m c 16 ∗ R) ⊢ |={Set.univ}=> Q ⟨⟩) :
    iprop(waits m K c 0 ∗ outPts m c 0 ∗ R)
      ⊢ WP c (lastProg i a1 h1 a2 h2 (Memref.whole cc0_scratch0) h3 cc0_scratch1 cc0_scratch2 c (devW c) h5) Q := by
  subst ha; exact last_wp m K c i h5 h

/-! ## From the last copies to the waits -/

theorem waits_start (K : Dev nD × Cell → ℕ) (c : Dev nD) :
    allSent m K c 7 ⊢ iprop(waits m K c 0 ∗ atPos ER (kcell (c, none)) 1 ∅ 0) := by
  have e1 : (bigSep Finset.univ fun p => waitAt m c 0 p) = iprop((bigSep Finset.univ fun p => cred (tallyAt (kcell (c, some p)) () N))
      ∗ bigSep Finset.univ fun p : Bool × Fin 8 × Fin 3 => atPos ER (kcell (c, some p)) 0 ∅ 0) := by
    rw [← bigSep_sep']
    exact bigSep_congr fun p _ => if_neg (Nat.not_lt_zero _)
  have e2 : copies (F := F) c 8 = bigSep Finset.univ fun g : Fin 8 => bigSep Finset.univ fun o : Fin 3 => cred (tallyAt (kcell (c, some (false, g, o))) () N) := by
    unfold copies sendCred
    exact bigSep_congr fun g _ => if_pos g.2
  have e3 : recvCreds (F := F) c = bigSep Finset.univ fun g : Fin 8 => bigSep Finset.univ fun o : Fin 3 => cred (tallyAt (kcell (c, some (true, g, o))) () N) := by
    unfold recvCreds
    rw [bigSep_univ_prod]
  unfold allSent waits steady poss
  rw [e1, bigSep_cells (fun p => cred (tallyAt (kcell (c, some p)) () N)), show copies (F := F) c ((7 : Fin 8).val + 1) = copies c 8 from rfl, e2, e3, show owedR c (7 - (7 : Fin 8).val) = 0 from rfl]
  iintro ⟨#HK, -, ⟨Hr, Hp, Hb⟩, HO, Hc⟩
  isplitr [Hb]
  · isplitr; · iexact HK
    isplitl [HO]; · iexact HO
    isplitr [Hp]
    · isplitl [Hr]; · iexact Hr
      iexact Hc
    · iexact Hp
  · iexact Hb

/-! ## The counters back -/

omit [FloatOps F] in
/-- A cell of every kind. -/
theorem bigSep_option {I : Type} [Fintype I] [DecidableEq I] (Φ : Option I → sProp 𝕄) :
    bigSep Finset.univ Φ = iprop(Φ none ∗ bigSep Finset.univ fun p => Φ (some p)) := by
  rw [show (Finset.univ : Finset (Option I)) = insert none (Finset.univ.map ⟨some, Option.some_injective I⟩) from by
      ext x; cases x <;> simp, bigSep_insert (by simp), bigSep_map]
  rfl

/-- What a device ends with: its gather buffer and every counter of its own at zero. -/
def done (c : Dev nD) : sProp 𝕄 :=
  iprop(gatherAny c ∗ bigSep Finset.univ fun k : Cell => semVal (kcell (c, k)) 0)

theorem close_all (K : Dev nD × Cell → ℕ) (c : Dev nD) :
    iprop(waited m K c ∗ atPos ER (kcell (c, none)) 1 ∅ 0) ⊢ |={Set.univ}=> iprop(owesE c 0 ∗ bigSep Finset.univ fun k : Cell => semVal (kcell (c, k)) 0) := by
  have hc := Rounds.cells_close ER (Rd m) (Es := Set.univ) (Finset.univ : Finset Cell) (fun k => kcell (c, k)) (fun k => K (c, k))
    (fun _ _ => Set.mem_univ _) (fun _ _ h => h) (fun _ => 1) (fun k _ => duties_later m (kcell (c, k)))
  have hI : records m K ⊢ bigSep Finset.univ fun k : Cell => cellInv ER (Rd m) (K (c, k)) (kcell (c, k)) :=
    (BI.bigSep_of_persistent Finset.univ (records m K)).trans (bigSep_mono fun k _ => rec_inv m K (c, k))
  unfold waited
  iintro ⟨⟨#HK, HO, Ha⟩, Hb⟩
  imod hc $$ [Ha Hb] with Hz
  · rw [bigSep_sep']
    isplitr
    · iapply hI; iexact HK
    · rw [bigSep_option]
      isplitl [Hb]; · iexact Hb
      iexact Ha
  imodintro
  isplitl [HO]; · iexact HO
  iexact Hz

end Cert.KernelIdeal.Run

end
-- ==== Proof.KernelIdeal.Body.lean ====
/-
One grid point's body, and the pipeline's body obligation.
-/
module

public import proofs.«01_k».proof.Proof.KernelIdeal.Last

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-- One operation, then a program. -/
theorem wp_lift_seq {c : Dev nD} {P : sProp 𝕄} {α β : Type} {e : TpuEff nD τ sig (Elt F) Λ₀ .tc α} {k : α → Prog (TpuEff nD τ sig (Elt F) Λ₀ .tc) β}
    {Q : β → sProp 𝕄} (h : P ⊢ WP c (.op e k) Q) : P ⊢ WP c (Prog.lift e >>= k) Q := h

set_option maxRecDepth 65536 in
/-- One chunk: its rows filled and sent; then, at the last chunk, the rest. -/
theorem body_front (K : Dev nD × Cell → ℕ) (c : Dev nD) (g : Fin 8) (i : grid0.Coords) (hi : (i 0).val = g.val)
    (a1 : Memref sig .tc .vmem S8192x128 .f32) (h1 : a1.IsWhole) (a2 : Memref sig .tc .vmem S2x1024 .f32) (h2 : a2.IsWhole) (h3)
    {R : sProp 𝕄} {Q : PUnit → sProp 𝕄}
    (hA : k0_cond5 i ≠ 1#1 → iprop(allSent m K c g ∗ ownSlots c (g.val + 1) ∗ opnd c a1 (xs m c (tOf g)) ∗ R) ⊢ Q ⟨⟩)
    (hB : ∀ h5 : k0_cond5 i = 1#1, iprop(allSent m K c g ∗ ownSlots c (g.val + 1) ∗ opnd c a1 (xs m c (tOf g)) ∗ R)
      ⊢ WP c (lastProg (F := F) i a1 h1 a2 h2 (Memref.whole cc0_scratch0) h3 cc0_scratch1 cc0_scratch2 c (devW c) h5) Q) :
    iprop(pre m K c g.val ∗ opnd c a1 (xs m c (tOf g)) ∗ R)
      ⊢ WP c (cc0_body (F := F) i a1 h1 a2 h2 (Memref.whole cc0_scratch0) h3 cc0_scratch1 cc0_scratch2) Q := by
  rw [cc0_body_eq_skeleton]; unfold cc0_body_skel
  refine wp_seq (part23_wp m K c g i hi a1 h1 a2 h2 h3 (xs m c (tOf g)) ?_)
  have e1 : iprop(mid m K c g.val ∗ ownSlots c g.val ∗ opnd c a1 (xs m c (tOf g)) ∗ R)
      ⊢ iprop((∃ f, slotPts c c g fullShare f) ∗ (mid m K c g.val ∗ ownSlots c (g.val + 1) ∗ opnd c a1 (xs m c (tOf g)) ∗ R)) := by
    iintro ⟨H1, H2, H3, H4⟩
    ihave H2 := (ownSlots_take c g) $$ H2
    icases H2 with ⟨Hs, H2⟩
    isplitl [Hs]; · iexact Hs
    isplitl [H1]; · iexact H1
    isplitl [H2]; · iexact H2
    isplitl [H3]; · iexact H3
    iexact H4
  refine e1.trans (wp_seq (part24_wp c g i hi (BitVec.ofNat 32 (i 0).val) a1 h1 a2 h2 h3 (xs m c (tOf g)) ?_))
  refine wp_seq (part25_wp m K c g i hi a1 h1 a2 h2 h3 ?_)
  refine wp_lift_seq (third_send m K c g _ (Fin.ext (k0_dev6_eq c)) (k0_off5 i c) ((k0_off5_eq i c).trans (by rw [hi])) _ _ _
    (sendSem_eq g 2 _ ((k0_off7_eq i).trans (by rw [hi]; rfl)) _ _) (recvSem_eq g 2 _ ((k0_off7_eq i).trans (by rw [hi]; rfl)) _ _) ?_)
  by_cases h5 : k0_cond5 i = 1#1
  · rw [dif_pos h5]
    exact hB h5
  · rw [dif_neg h5]
    exact ret_of (hA h5)

/-! ## The pipeline's data -/

/-- What device `c`'s first point starts from, its gather buffer apart. -/
def start (c : Dev nD) : sProp 𝕄 := iprop(∃ K, records m K ∗ levAts L lv ∗ waiting c ∗ barToks c)

/-- Between two points. -/
def between (c : Dev nD) (n : ℕ) : sProp 𝕄 := iprop(∃ K, records m K ∗ levAts L lv ∗ steady c ∗ copies c n ∗ ownSlots c n)

/-- The body's invariant before point `n`. -/
def phi (c : Dev nD) (n : ℕ) : sProp 𝕄 :=
  if n = 0 then iprop(start m c ∗ gatherAny c) else if n < 8 then between m c n else done c

/-- The pipeline's data: the arrays as they are at entry, the block fetched and the output left at each point. -/
def dats (_ : Fin 1) (c : Dev nD) : Dat τ (Elt F) Unit ℕ UU ℕ cfg0 c where
  A w := (s₀ m ρ).mem ((cfg0.win w).arr.view.loc (c : Thread nD τ))
  after w t := match w with
    | ⟨0, _⟩ => xs m c t
    | ⟨1, _⟩ => outAt m
  Φ t := phi m c t.val
  q _ := fullShare
  owed t := owedN c t.val

theorem pre_of_phi (c : Dev nD) (g : Fin 8) :
    iprop(phi m c g.val ∗ owesE c (owedN c g.val)) ⊢ iprop(∃ K, pre m K c g.val) := by
  unfold phi pre
  by_cases h0 : g.val = 0
  · simp only [if_pos h0]
    rw [h0]
    unfold start
    iintro ⟨⟨⟨%K, #HK, #Hl, Hw, Hb⟩, Hg⟩, HO⟩
    iexists K
    isplitr; · iexact HK
    isplitr; · iexact Hl
    isplitl [HO]; · iexact HO
    isplitl [Hw]; · iexact Hw
    isplitl [Hb]; · iexact Hb
    iexact Hg
  · obtain ⟨t, ht⟩ : ∃ t, g.val = t + 1 := ⟨g.val - 1, by omega⟩
    simp only [if_neg h0, if_pos g.2]
    unfold between mid
    simp only [if_neg h0]
    rw [show owedN c g.val = owedR c (8 - g.val) from by rw [ht]; exact congrArg (owedR c) (by omega)]
    iintro ⟨⟨%K, #HK, #Hl, Hs, Hc, Ho⟩, HO⟩
    iexists K
    isplitr [Ho]
    · isplitr; · iexact HK
      isplitr; · iexact Hl
      isplitl [HO]; · iexact HO
      isplitl [Hs]; · iexact Hs
      iexact Hc
    · iexact Ho

theorem phi_of_sent (K : Dev nD × Cell → ℕ) (c : Dev nD) (g : Fin 8) (hg : g.val < 7) :
    iprop(allSent m K c g ∗ ownSlots c (g.val + 1)) ⊢ iprop(phi m c (g.val + 1) ∗ owesE c (owedN c (g.val + 1))) := by
  unfold phi allSent between
  rw [if_neg (Nat.succ_ne_zero _), if_pos (by omega)]
  iintro ⟨⟨#HK, #Hl, Hs, HO, Hc⟩, Ho⟩
  isplitr [HO]
  · iexists K
    isplitr; · iexact HK
    isplitr; · iexact Hl
    isplitl [Hs]; · iexact Hs
    isplitl [Hc]; · iexact Hc
    iexact Ho
  · iexact HO

theorem coord_val : ∀ t : Fin cfg0.N, (grid0.coords t 0).val = t.val := by
  show ∀ t : Fin grid0.N, (grid0.coords t 0).val = t.val
  decide

theorem cond5_iff (i : grid0.Coords) (g : Fin 8) (hi : (i 0).val = g.val) : k0_cond5 i = 1#1 ↔ g.val = 7 := by
  rw [k0_cond5, hi]
  clear hi
  revert g; decide

theorem stage1 (t : Fin cfg0.N) : st0_1 t = Memref.whole cc0_stg1_0 := by
  have : cfg0.slots t 1 = (0 : Fin 1) := Subsingleton.elim (α := Fin 1) _ _
  show (cfg0.win 1).stage (cfg0.slots t 1) = _
  rw [this]

theorem before_in (c : Dev nD) (t : Fin cfg0.N) (d) : (dats m ρ 0 c).before 0 t d = xs m c t := by
  unfold Dat.before
  rw [if_pos (fetch0_0 t)]; rfl

theorem owesAt_elim (c : Dev nD) (n : Fin (cfg0.N + 1)) : (dats m ρ 0 c).owesAt () n ⊢ owesE c (owedN c n.val) := by
  unfold Dat.owesAt Pipeline.owesWithin owesE
  iintro ⟨%W, -, H⟩
  iexists W; iexact H

theorem owesAt_intro (c : Dev nD) (n : Fin (cfg0.N + 1)) : owesE c (owedN c n.val) ⊢ (dats m ρ 0 c).owesAt () n := by
  unfold Dat.owesAt Pipeline.owesWithin owesE
  iintro ⟨%W, H⟩
  iexists W
  isplitr; · ipureintro; exact fun _ _ => Or.inl trivial
  iexact H

/-- The output's staging buffer as the obligation hands it over. -/
def outBefore (c : Dev nD) (t : Fin cfg0.N) : sProp 𝕄 :=
  iprop(∃ d, owns (c : Thread nD τ) (st0_1 t) fullShare ((dats m ρ 0 c).before 1 t d))

theorem outBefore_pts (c : Dev nD) (t : Fin cfg0.N) : outBefore m ρ c t ⊢ outPts m c 0 := by
  unfold outBefore outPts
  rw [stage1]
  unfold owns
  simp only [Memref.view_whole, View.read_whole, View.set_whole]
  iintro ⟨%d, %f, -, H⟩
  iexists f
  isplitr; · ipureintro; exact fun _ h => absurd h (Nat.not_lt_zero _)
  iexact H

theorem outPts_owns (c : Dev nD) (t : Fin cfg0.N) : outPts m c 16 ⊢ owns (c : Thread nD τ) (st0_1 t) fullShare (outAt m) := by
  refine (outPts_all m c).trans (show (_ : sProp 𝕄) ⊢ _ from ?_)
  rw [stage1]
  unfold owns
  simp only [Memref.view_whole, View.read_whole, View.set_whole]
  iintro H
  iexists _
  isplitr; · ipureintro; rfl
  iexact H

/-- The output's staging buffer as the obligation asks it back. -/
def outAfter (c : Dev nD) (t : Fin cfg0.N) : sProp 𝕄 :=
  match cfg0.idle 1 (cfg0.grid.coords t) with
  | true =>
    match (cfg0.win 1).flush t with
    | false => outBefore m ρ c t
    | true => owns (c : Thread nD τ) (st0_1 t) fullShare (outAt m)
  | false => owns (c : Thread nD τ) (st0_1 t) fullShare (outAt m)

theorem outAfter_idle (c : Dev nD) (t : Fin cfg0.N) (h : t.val ≠ 7) : outAfter m ρ c t = outBefore m ρ c t := by
  have hlt : t.val < 8 := t.2
  have h5 : k0_cond5 (grid0.coords t) ≠ 1#1 := fun e => h ((cond5_iff _ ⟨t.val, hlt⟩ (coord_val t)).mp e)
  have e1 : cfg0.idle 1 (cfg0.grid.coords t) = true := by
    show (!(k0_cond5 (grid0.coords t) == 1#1)) = true
    rw [beq_eq_false_iff_ne.mpr h5]; rfl
  have e2 : (cfg0.win 1).flush t = false := by
    cases hf : (cfg0.win 1).flush t with
    | false => rfl
    | true => have := (flush0_1 t).mp hf; omega
  unfold outAfter
  rw [e1, e2]

theorem outAfter_last (c : Dev nD) (t : Fin cfg0.N) (h : t.val = 7) :
    outAfter m ρ c t = owns (c : Thread nD τ) (st0_1 t) fullShare (outAt m) := by
  have e2 : (cfg0.win 1).flush t = true := (flush0_1 t).mpr (by omega)
  unfold outAfter
  rw [e2]
  split <;> rfl

set_option maxRecDepth 8000 in
/-- The body at one point. -/
theorem sound_body (c : Dev nD) (t : Fin cfg0.N) :
    iprop(phi m c t.val ∗ owesE c (owedN c t.val) ∗ owns (c : Thread nD τ) (st0_0 t) fullShare (xs m c t) ∗ outBefore m ρ c t)
      ⊢ WP c (bodyAt0 (F := F) t) fun _ => iprop(phi m c (t.val + 1) ∗ owesE c (owedN c (t.val + 1))
          ∗ owns (c : Thread nD τ) (st0_0 t) fullShare (xs m c t) ∗ outAfter m ρ c t) := by
  have hlt : t.val < 8 := t.2
  have hK : iprop(phi m c t.val ∗ owesE c (owedN c t.val) ∗ owns (c : Thread nD τ) (st0_0 t) fullShare (xs m c t) ∗ outBefore m ρ c t)
      ⊢ iprop(∃ K, pre m K c t.val ∗ opnd c (st0_0 t) (xs m c t) ∗ outBefore m ρ c t) := by
    iintro ⟨H1, H2, H3, H4⟩
    ihave H := (pre_of_phi m c ⟨t.val, hlt⟩) $$ [H1 H2]
    · isplitl [H1] <;> iassumption
    icases H with ⟨%K, H⟩
    iexists K
    isplitl [H]; · iexact H
    isplitl [H3]; · iexact H3
    iexact H4
  refine hK.trans (show (_ : sProp 𝕄) ⊢ _ from ?_)
  iintro ⟨%K, H⟩
  iapply (show (_ : sProp 𝕄) ⊢ _ from ?_) $$ H
  refine body_front m K c ⟨t.val, hlt⟩ (grid0.coords t) (coord_val t) _ _ _ _ _ (fun h5 => ?_) fun h5 => ?_
  · have h7 : t.val ≠ 7 := fun e => h5 ((cond5_iff _ ⟨t.val, hlt⟩ (coord_val t)).mpr e)
    rw [outAfter_idle m ρ c t h7]
    iintro ⟨H1, H2, H3, H4⟩
    ihave H := (phi_of_sent m K c ⟨t.val, hlt⟩ (by show t.val < 7; omega)) $$ [H1 H2]
    · isplitl [H1] <;> iassumption
    icases H with ⟨H1, H2⟩
    isplitl [H1]; · iexact H1
    isplitl [H2]; · iexact H2
    isplitl [H3]; · iexact H3
    iexact H4
  · have h7 : t.val = 7 := (cond5_iff _ ⟨t.val, hlt⟩ (coord_val t)).mp h5
    have hg : (⟨t.val, hlt⟩ : Fin 8) = 7 := Fin.ext h7
    rw [outAfter_last m ρ c t h7]
    have hphi : phi m c (t.val + 1) = done c := by
      unfold phi; rw [if_neg (Nat.succ_ne_zero _), if_neg (by omega)]
    have howed : owedN c (t.val + 1) = 0 := by rw [h7]; rfl
    rw [hphi, howed, hg]
    have hpre : iprop(allSent m K c 7 ∗ ownSlots c ((7 : Fin 8).val + 1) ∗ opnd c (st0_0 t) (xs m c (tOf 7)) ∗ outBefore m ρ c t)
        ⊢ iprop(waits m K c 0 ∗ outPts m c 0 ∗ (atPos ER (kcell (c, none)) 1 ∅ 0 ∗ opnd c (st0_0 t) (xs m c (tOf 7)))) := by
      iintro ⟨H1, -, H3, H4⟩
      ihave H1 := (waits_start m K c) $$ H1
      icases H1 with ⟨H1, Hb⟩
      ihave H4 := (outBefore_pts m ρ c t) $$ H4
      isplitl [H1]; · iexact H1
      isplitl [H4]; · iexact H4
      isplitl [Hb]; · iexact Hb
      iexact H3
    have hx : xs m c (tOf 7) = xs m c t := congrArg (xs m c) (Fin.ext h7.symm)
    refine hpre.trans (last_wp' m K c _ h5 (stage1 t) (show (_ : sProp 𝕄) ⊢ _ from ?_))
    iintro ⟨Hw, Hg, Ho, Hb, Hx⟩
    imod (close_all m K c) $$ [Hw Hb] with ⟨HO, Hz⟩
    · isplitl [Hw] <;> iassumption
    imodintro
    unfold done gatherAny
    isplitl [Hg Hz]
    · isplitl [Hg]; · iexists _; iexact Hg
      iexact Hz
    isplitl [HO]; · iexact HO
    isplitl [Hx]
    · ihave Hx := (Entails.of_eq (congrArg (opnd c (st0_0 t)) hx)) $$ Hx
      iexact Hx
    iapply (outPts_owns m c t); iexact Ho

set_option maxRecDepth 8000 in
/-- The library's body obligation on device `c`. -/
theorem body_obligation (c : Dev nD) : BodyObligation (dats m ρ 0 c) (defs₀ (F := F)) 𝒱₀ () Set.univ := fun t => by
  rw [bigSep_W0, bigSep_W0]
  show iprop(phi m c t.val ∗ (dats m ρ 0 c).owesAt () t.castSucc
      ∗ (∃ d, owns (c : Thread nD τ) (st0_0 t) fullShare ((dats m ρ 0 c).before 0 t d)) ∗ outBefore m ρ c t)
    ⊢ WP c (bodyAt0 (F := F) t) fun _ => iprop(phi m c (t.val + 1) ∗ (dats m ρ 0 c).owesAt () t.succ
        ∗ owns (c : Thread nD τ) (st0_0 t) fullShare (xs m c t) ∗ outAfter m ρ c t)
  have e1 : iprop(phi m c t.val ∗ (dats m ρ 0 c).owesAt () t.castSucc
      ∗ (∃ d, owns (c : Thread nD τ) (st0_0 t) fullShare ((dats m ρ 0 c).before 0 t d)) ∗ outBefore m ρ c t)
      ⊢ iprop(phi m c t.val ∗ owesE c (owedN c t.val) ∗ owns (c : Thread nD τ) (st0_0 t) fullShare (xs m c t) ∗ outBefore m ρ c t) := by
    iintro ⟨H1, H2, ⟨%d, H3⟩, H4⟩
    ihave H2 := (owesAt_elim m ρ c t.castSucc) $$ H2
    ihave H3 := (Entails.of_eq (congrArg (owns (c : Thread nD τ) (st0_0 t) fullShare) (before_in m ρ c t d))) $$ H3
    isplitl [H1]; · iexact H1
    isplitl [H2]; · iexact H2
    isplitl [H3]; · iexact H3
    iexact H4
  refine e1.trans ((sound_body m ρ c t).trans ?_)
  unfold WP
  exact wp_mono _ _ _ fun _ => sep_mono_right (sep_mono_left (owesAt_intro m ρ c t.succ))

end Cert.KernelIdeal.Run

end
-- ==== Proof.KernelIdeal.Launch.lean ====
/-
The launch: the protocol's ghost state dealt to the devices, the launch credit, and the run of `main`.
-/
module

public import proofs.«01_k».proof.Proof.KernelIdeal.Body
public import Idealize.ShloMosaic.Lib.Pipeline.Launch
public import Idealize.ShloMosaic.Lib.Pipeline.CollectiveSegs
public import Mathlib.Tactic.Abel

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the protocol's cells -/

/-- The kernel's own semaphores: the forty-eight copy cells. -/
abbrev osem : Bool × Fin 8 × Fin 3 → SemLoc sig := fun p => csem (some p)

theorem ownSemFacts : Pipeline.OwnSemFacts cfg0.spec osem where
  isScoped := by decide
  inj := fun a b h => Option.some.inj (csem_injective h)
  disj := fun k w s h => by
    have h1 : decode (osem k) = some (some k) := decode_csem (some k)
    have h2 : ∀ (w : Fin cfg0.W) (s : Fin (cfg0.spec w).nbuf), decode (.dma ((cfg0.spec w).sem s)) = none := by decide
    rw [h, h2] at h1; cases h1

theorem share_eq (c : Dev nD) (w : Fin cfg0.W) : (dats m ρ 0 c).share w = fullShare := by unfold Dat.share; split <;> rfl

def allCells : Finset (GSem nD τ sig) := Finset.univ.map ⟨kcell, kcell_injective⟩

/-- A duty token, as minted. -/
abbrev tokOf (x : (Dev nD × Cell) × Fin 3) : GSem nD τ sig × ℕ × Fin 3 := (kcell x.1, 0, x.2)
theorem tokOf_injective : Function.Injective tokOf := by
  rintro ⟨a, d⟩ ⟨a', d'⟩ h
  have h1 : a = a' := kcell_injective (congrArg Prod.fst h)
  have h2 : d = d' := congrArg (fun x : GSem nD τ sig × ℕ × Fin 3 => x.2.2) h
  rw [h1, h2]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 := bigSep Finset.univ fun k : Cell => bigSep Finset.univ fun d : Fin 3 => dutyTok ER (kcell (c, k)) 0 d

/-- What the launch element deals device `c`. -/
def G (c : Dev nD) : sProp 𝕄 :=
  iprop((bigSep Finset.univ fun k : Cell => roundState ER (Rd m) (kcell (c, k)) 0)
    ∗ (bigSep Finset.univ fun k : Cell => iprop(atPos ER (kcell (c, k)) 0 ∅ 0 ∗ reached ER (kcell (c, k)) 0)) ∗ toks c)

/-- The tokens of all copies of device `c`. -/
def allCopyToks (c : Dev nD) : sProp 𝕄 := bigSep Finset.univ fun g : Fin 8 => bigSep Finset.univ fun o : Fin 3 => copyToks c g o

/-- What stays with device `c`: its positions and the tokens of the duties it pays. -/
def linear (c : Dev nD) : sProp 𝕄 :=
  iprop((bigSep Finset.univ fun k : Cell => atPos ER (kcell (c, k)) 0 ∅ 0) ∗ barToks c ∗ allCopyToks c)

/-- What the global step makes of it. -/
def G' (c : Dev nD) : sProp 𝕄 := iprop(∃ K, records m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (kcell (c, none)) 0 := by
  unfold unscopedSems0; rw [bigSep_eq_bigSepL_of_eq [SemLoc.reg barS] (by decide) (by decide)]; rfl

/-- The barrier and the copy cells at zero, as the launch hands them over and takes them back. -/
theorem sems0_eq (c : Dev nD) :
    (bigSep Finset.univ fun k : Cell => (semVal (kcell (c, k)) 0 : sProp 𝕄))
      = iprop(unscopedSems0 c ∗ Pipeline.ownSems0 (Ix := Unit) (Name := ℕ) (U := UU) (Lvl := ℕ) (Val := Elt F) (τ := τ) osem c) := by
  rw [bigSep_option, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Cell => semVal (kcell (c, k)) 0) ∗ bigSep Finset.univ fun k : Cell => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the mesh -/

/-- The devices moved `o + 1` places. -/
def peerE (o : Fin 3) : Dev nD ≃ Dev nD := ⟨fun c => peer c o, fun c => peer c o.rev, fun c => peer_rev c o, fun c => peer_rev' c o⟩

theorem peer_reindex (Φ : Dev nD → Fin 3 → sProp 𝕄) :
    (bigSep Finset.univ fun c : Dev nD => bigSep Finset.univ fun o : Fin 3 => Φ (peer c o) o)
      = bigSep Finset.univ fun c : Dev nD => bigSep Finset.univ fun o : Fin 3 => Φ c o := by
  rw [bigSep_exchange, bigSep_exchange Finset.univ Finset.univ Φ]
  exact bigSep_congr fun o _ => (bigSep_univ_equiv (peerE o) fun c => Φ c o).symm

theorem toks_around : (bigSep Finset.univ fun c : Dev nD => (toks c : sProp 𝕄)) ⊢ bigSep Finset.univ fun c : Dev nD => iprop(barToks c ∗ allCopyToks c) := by
  have hbar : (bigSep Finset.univ fun c : Dev nD => bigSep Finset.univ fun d : Fin 3 => (dutyTok ER (kcell (c, none)) 0 d : sProp 𝕄))
      = bigSep Finset.univ fun c : Dev nD => barToks c := by
    unfold barToks
    rw [peer_reindex fun c o => dutyTok ER (kcell (c, none)) 0 o.rev]
    exact bigSep_congr fun c _ => bigSep_univ_equiv Fin.revPerm fun d => (dutyTok ER (kcell (c, none)) 0 d : sProp 𝕄)
  have hcopy : (bigSep Finset.univ fun c : Dev nD => iprop((bigSep Finset.univ fun g : Fin 8 => bigSep Finset.univ fun o : Fin 3 => (dutyTok ER (kcell (c, some (true, g, o))) 0 0 : sProp 𝕄))
        ∗ bigSep Finset.univ fun g : Fin 8 => bigSep Finset.univ fun o : Fin 3 => dutyTok ER (kcell (c, some (false, g, o))) 0 0))
      ⊢ bigSep Finset.univ fun c : Dev nD => allCopyToks c := by
    unfold allCopyToks copyToks
    simp only [bigSep_sep']
    have e : (bigSep Finset.univ fun c : Dev nD => bigSep Finset.univ fun g : Fin 8 => bigSep Finset.univ fun o : Fin 3 => (dutyTok ER (kcell (peer c o, some (true, g, o))) 0 0 : sProp 𝕄))
        = bigSep Finset.univ fun c : Dev nD => bigSep Finset.univ fun g : Fin 8 => bigSep Finset.univ fun o : Fin 3 => dutyTok ER (kcell (c, some (true, g, o))) 0 0 := by
      rw [bigSep_exchange, bigSep_exchange Finset.univ Finset.univ fun (c : Dev nD) (g : Fin 8) => bigSep Finset.univ fun o : Fin 3 => (dutyTok ER (kcell (c, some (true, g, o))) 0 0 : sProp 𝕄)]
      exact bigSep_congr fun g _ => peer_reindex fun c o => dutyTok ER (kcell (c, some (true, g, o))) 0 0
    rw [e]
    iintro ⟨H1, H2⟩
    isplitl [H2] <;> iassumption
  have hsplit : ∀ c : Dev nD, (toks c : sProp 𝕄) ⊢ iprop((bigSep Finset.univ fun d : Fin 3 => dutyTok ER (kcell (c, none)) 0 d)
      ∗ (bigSep Finset.univ fun g : Fin 8 => bigSep Finset.univ fun o : Fin 3 => dutyTok ER (kcell (c, some (true, g, o))) 0 0)
      ∗ bigSep Finset.univ fun g : Fin 8 => bigSep Finset.univ fun o : Fin 3 => dutyTok ER (kcell (c, some (false, g, o))) 0 0) := fun c => by
    unfold toks
    rw [bigSep_option, ← bigSep_cells fun p => (dutyTok ER (kcell (c, some p)) 0 0 : sProp 𝕄)]
    exact sep_mono_right (bigSep_mono fun p _ => bigSep_elim (Finset.mem_univ (0 : Fin 3)))
  refine (bigSep_mono fun c _ => hsplit c).trans (show (_ : sProp 𝕄) ⊢ _ from ?_)
  rw [bigSep_sep', bigSep_sep' Finset.univ (fun c : Dev nD => (barToks c : sProp 𝕄)), hbar]
  exact sep_mono_right hcopy

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cell => iprop(∃ κ : ℕ, cellInv ER (Rd m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, HR⟩, Htok⟩
  ihave HK := (BI.bigSep_exists_pi Finset.univ (fun (ck : Dev nD × Cell) (κ : ℕ) => (cellInv ER (Rd m) κ (kcell ck) : sProp 𝕄))) $$ HI
  icases HK with ⟨%K, HI⟩
  ihave Htk := (toks_around (F := F)) $$ Htok
  have hG : ∀ c : Dev nD, iprop(records m K ∗ linear c) ⊢ G' m c := fun c => by
    unfold G'
    iintro H; iexists K; iexact H
  iapply (with_persistent (R := records m K) fun c _ => hG c)
  unfold records linear
  simp only [bigSep_sep']
  isplitl [HI HR]
  · isplitl [HI] <;> iassumption
  · isplitl [Hat] <;> iassumption

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What device `d`'s own waits will take from others: three signals and the copies that land on it. -/
def T (d : Dev nD) : CellTallies nD τ sig Unit :=
  tallyAt (kcell (d, none)) () 3 + ∑ p : Fin 8 × Fin 3, tallyAt (kcell (d, some (true, p))) () N

theorem owedR_all (c : Dev nD) : owedR c 8 = ∑ g : Fin 8, ∑ o : Fin 3, sendT c g o := by
  simp only [Fin.sum_univ_eight, Fin.sum_univ_three]
  simp only [owedR, show Fin.ofNat 8 (7 - 0) = 7 from rfl, show Fin.ofNat 8 (7 - 1) = 6 from rfl, show Fin.ofNat 8 (7 - 2) = 5 from rfl,
    show Fin.ofNat 8 (7 - 3) = 4 from rfl, show Fin.ofNat 8 (7 - 4) = 3 from rfl, show Fin.ofNat 8 (7 - 5) = 2 from rfl,
    show Fin.ofNat 8 (7 - 6) = 1 from rfl, show Fin.ofNat 8 (7 - 7) = 0 from rfl]
  abel

theorem sum_peers (f : Dev nD → Fin 3 → CellTallies nD τ sig Unit) : ∑ d : Dev nD, ∑ o : Fin 3, f (peer d o) o = ∑ d : Dev nD, ∑ o : Fin 3, f d o := by
  rw [Finset.sum_comm, Finset.sum_comm (f := f)]
  exact Finset.sum_congr rfl fun o _ => Equiv.sum_comp (peerE o) fun d => f d o

theorem owed_sum : (∑ d : Dev nD, O₀ d) = ∑ d : Dev nD, T d := by
  have h1 : ∀ d : Dev nD, O₀ d = (∑ g : Fin 8, ∑ o : Fin 3, sendT d g o) + ∑ o : Fin 3, barT d o := fun d => by
    unfold O₀
    rw [owedR_all, Fin.sum_univ_three (f := fun o => barT d o)]
    abel
  have h2 : ∀ d : Dev nD, T d = (∑ g : Fin 8, ∑ o : Fin 3, tallyAt (kcell (d, some (true, g, o))) () N) + ∑ o : Fin 3, tallyAt (kcell (d, none)) () 1 := fun d => by
    unfold T
    rw [Fintype.sum_prod_type, Fin.sum_univ_three (f := fun _ => tallyAt (kcell (d, none)) () 1), tallyAt_add, tallyAt_add, add_comm]
  rw [Finset.sum_congr rfl fun d _ => h1 d, Finset.sum_congr rfl fun d _ => h2 d, Finset.sum_add_distrib, Finset.sum_add_distrib,
    sum_peers fun d _ => tallyAt (kcell (d, none)) () 1, Finset.sum_comm,
    Finset.sum_comm (f := fun (d : Dev nD) (g : Fin 8) => ∑ o : Fin 3, tallyAt (kcell (d, some (true, g, o))) () N)]
  congr 1
  exact Finset.sum_congr rfl fun g _ => sum_peers fun d o => tallyAt (kcell (d, some (true, g, o))) () N

theorem T_own (d : Dev nD) (g : GSem nD τ sig) (h : T d g ≠ 0) : g.1 = (d : Thread nD τ) := by
  by_contra hne
  refine h ?_
  have hk : ∀ k : Cell, g ≠ kcell (d, k) := fun k e => hne (congrArg Prod.fst e)
  unfold T
  rw [Pi.add_apply, tallyAt_ne_cell (hk none), Finset.sum_apply, zero_add]
  exact Finset.sum_eq_zero fun p _ => tallyAt_ne_cell (hk (some (true, p))) _ _

theorem creds (c : Dev nD) :
    (Pipeline.launchCred O₀ c : sProp 𝕄) ⊢ iprop(cred (tallyAt (kcell (c, none)) () 3) ∗ recvCreds c) := by
  rw [Pipeline.launchCred_of_sum O₀ T owed_sum T_own c]
  unfold T recvCreds
  refine (cred_add _ _).1.trans (sep_mono_right ?_)
  rw [Pipeline.cred_finsetSum]

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hat : (bigSep Finset.univ fun k : Cell => (atPos ER (kcell (c, k)) 0 ∅ 0 : sProp 𝕄)) = iprop(atPos ER (kcell (c, none)) 0 ∅ 0 ∗ poss c) := by
    rw [bigSep_option]; rfl
  unfold start G' linear waiting
  rw [hat]
  iintro ⟨-, Hlev, Hcr, -, ⟨%K, HK, ⟨Hb, Hp⟩, Hbt, Hct⟩⟩
  ihave Hc := (creds (F := F) c) $$ Hcr
  icases Hc with ⟨H1, HN⟩
  imodintro
  isplitl
  · iexists K
    isplitl [HK]; · iexact HK
    isplitl [Hlev]; · iexact Hlev
    isplitr [Hbt]
    · isplitl [HN]; · iexact HN
      isplitl [Hp]; · iexact Hp
      isplitl [Hb]; · iexact Hb
      isplitl [H1]; · iexact H1
      unfold allCopyToks; iexact Hct
    · iexact Hbt
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ gatherAny c) from rfl, scopedRest0_eq]
  unfold gatherAny
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from rfl, scopedRest0_eq]
  unfold done gatherAny
  rw [sems0_eq]
  iintro ⟨Hr, HzB, HzS⟩
  isplitl [HzB]; · iexact HzB
  isplitl [HzS]; · iexact HzS
  iexact Hr

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) t.val

/-! ## The run -/

/-- An array of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair execution of `main` on the four devices ends, and every final state
    has each device's arrays at the contents of record and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run is what it was. -/
theorem finalA_arg (c : Dev nD) : finalA m ρ c (0 : Fin 2) = m ((c : Thread nD τ).loc main_arg0) :=
  (dats (F := F) m ρ 0 c).arrAt_in (0 : Fin 2) rfl _

end Cert.KernelIdeal.Run

end
-- ==== Proof.Value.RefRun.lean ====
/-
The run of the reference: its operations in order, and what each of its results holds when it ends.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.ReferenceIdeal.HostRun

open Cert.ReferenceIdeal Cert.ReferenceIdeal.Gen
open Idealize.ShloMosaic Idealize.ShloMosaic.TcCoe Idealize.ShloMosaic.StableHlo Idealize.SL.Sem

variable {F : FTy → Type} [FloatOps F]

/-- The operations of `@main` in order, those of `@argmax` in the place of its call. -/
abbrev hostOps : List (HloOp τ sig (Elt F)) :=
  [ TRef.nullary main_call0.v0 (iotaInDim S32768x1024 32 0),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S32768x1024_S1024_d0 h_S_ j).1),
    TRef.quaternary (.of main_arg0) main_call0.v0 main_call0.cst main_call0.c main_call0.v1_1
      (fun x y u v j => (Host.argReduce reducer_argmax_f32_i32 x y u v reducesTo_S32768x1024_S1024_d0 h_S_ j).2),
    unary main_v0 main_v1 (sitofp .f32 : (⟨S1024, .i32⟩ : BufTy).Contents (Elt F) → (⟨S1024, .f32⟩ : BufTy).Contents (Elt F)),
    nullary main_cst (constant S_ .f32 0xFF800000#32),
    binary main_arg0 main_cst main_v2 ((fun x v => Host.reduce FloatOps.maximumf x v reducesTo_S32768x1024_S1024_d0 h_S_) :
      (⟨S32768x1024, .f32⟩ : BufTy).Contents (Elt F) → (⟨S_, .f32⟩ : BufTy).Contents (Elt F) → (⟨S1024, .f32⟩ : BufTy).Contents (Elt F)),
    unary main_v2 main_v3 (broadcastInDim S1x1024 ![1] bcast_S1024_S1x1024_1 : (⟨S1024, .f32⟩ : BufTy).Contents (Elt F) → (⟨S1x1024, .f32⟩ : BufTy).Contents (Elt F)),
    unary main_v1 main_v4 (broadcastInDim S1x1024 ![1] bcast_S1024_S1x1024_1 : (⟨S1024, .f32⟩ : BufTy).Contents (Elt F) → (⟨S1x1024, .f32⟩ : BufTy).Contents (Elt F)),
    binary main_v3 main_v4 main_v5 ((fun a b => concatenate S2x1024 0 [⟨S1x1024, a⟩, ⟨S1x1024, b⟩] concatenates_S1x1024_S1x1024_S2x1024_d0) :
      (⟨S1x1024, .f32⟩ : BufTy).Contents (Elt F) → (⟨S1x1024, .f32⟩ : BufTy).Contents (Elt F) → (⟨S2x1024, .f32⟩ : BufTy).Contents (Elt F)) ]

theorem main_seq (c : Dev nD) : main (F := F) c = seq hostOps := rfl
theorem no_scoped_refs : (Finset.univ.filter fun b : Ref sig .tc => b.isScoped) = ∅ := by decide
theorem no_scoped_sems : (Finset.univ.filter fun sm : SemLoc sig => sm.isScoped .tc) = ∅ := by decide

theorem hostOps_sub : (hostOps : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., binary_bufs_sub .., unary_bufs_sub .., unary_bufs_sub .., binary_bufs_sub ..⟩

/-- The positions of the maxima, as 32-bit integers. -/
def argVec (X : Vec F S32768x1024 .f32) : IVec S1024 32 := fun j =>
  (Host.argReduce reducer_argmax_f32_i32 X (iotaInDim S32768x1024 32 0) (constant S_ .f32 0xFF800000#32) (constantI S_ 32 0#32)
    reducesTo_S32768x1024_S1024_d0 h_S_ j).2

/-- The maxima. -/
def maxVec (X : Vec F S32768x1024 .f32) : FVec F S1024 .f32 :=
  Host.reduce FloatOps.maximumf X (constant S_ .f32 0xFF800000#32) reducesTo_S32768x1024_S1024_d0 h_S_

/-- The result: the maxima over their positions. -/
def refOut (X : Vec F S32768x1024 .f32) : FVec F S2x1024 .f32 :=
  concatenate S2x1024 0 [⟨S1x1024, broadcastInDim S1x1024 ![1] bcast_S1024_S1x1024_1 (maxVec X)⟩,
    ⟨S1x1024, broadcastInDim S1x1024 ![1] bcast_S1024_S1x1024_1 (sitofp .f32 (argVec X))⟩] concatenates_S1x1024_S1x1024_S2x1024_d0

variable (m : (ℓ : Loc nD τ sig) → Buf (Elt F) ℓ) (ρ : Dev nD → PrngReg)

/-- Every fair execution of the reference ends with its result at `refOut` of the argument, and the argument unchanged. -/
theorem run_ref : θ_run defs (onTc (τ := τ) (main (F := F))) ⟨m, fun _ => 0, ρ⟩ fun r => ∀ c : Dev nD,
    r.2.mem ((c.tc : Thread nD τ).loc main_v5) = refOut (m ((c.tc : Thread nD τ).loc main_arg0))
      ∧ r.2.mem ((c.tc : Thread nD τ).loc main_arg0) = m ((c.tc : Thread nD τ).loc main_arg0) := by
  refine (θ_run defs _ _).mono (fun _ h c => ⟨(h c main_v5).trans ?_, (h c main_arg0).trans ?_⟩)
    (run_seq no_scoped_refs no_scoped_sems defs main (fun _ => hostOps) main_seq (fun _ => hostOps_sub) m ρ)
  · simp only [hostOps, TRef.nullary, TRef.quaternary, TRef.toBuf, TRef.ofBuf, cast_eq]
    after_results
    rfl
  · simp only [hostOps, TRef.nullary, TRef.quaternary, TRef.toBuf, TRef.ofBuf, cast_eq]
    after_results

end Cert.ReferenceIdeal.HostRun

end
-- ==== Proof.Value.First.lean ====
/-
The first place at which a finite family of extended reals takes its greatest value, and the folds and sums that find it.
-/
module

public import Idealize.ShloMosaic.Lib.SortNet.Extract
public import Idealize.ShloMosaic.PureOps.Ideal
public import Idealize.ShloMosaic.PureOps.Ideal.Laws

@[expose] public section

namespace Cert.ArgMax

open Idealize.ShloMosaic

/-- `r` is the first place of the greatest value of `f`. -/
def IsFirst {n : ℕ} (f : Fin n → EReal) (r : Fin n) : Prop := (∀ k, f k ≤ f r) ∧ ∀ k, f k = f r → r ≤ k

variable {n : ℕ} {f : Fin n → EReal} {r r' : Fin n}

/-- There is at most one such place. -/
theorem IsFirst.unique (h : IsFirst f r) (h' : IsFirst f r') : r = r' := by
  have e : f r = f r' := le_antisymm (h'.1 r) (h.1 r')
  exact le_antisymm (h.2 r' e.symm) (h'.2 r e)

/-- A family that is not empty has one. -/
theorem exists_first (f : Fin n → EReal) (hn : 0 < n) : ∃ r, IsFirst f r := by
  haveI : Nonempty (Fin n) := ⟨⟨0, hn⟩⟩
  obtain ⟨a, -, ha⟩ := Finset.exists_max_image Finset.univ f Finset.univ_nonempty
  obtain ⟨b, hb, hmin⟩ := Finset.exists_min_image (Finset.univ.filter fun k => f k = f a) id ⟨a, by simp⟩
  have hba : f b = f a := (Finset.mem_filter.mp hb).2
  refine ⟨b, fun k => hba ▸ ha k (Finset.mem_univ k), fun k hk => hmin k (Finset.mem_filter.mpr ⟨Finset.mem_univ k, hk.trans hba⟩)⟩

/-- The maximum folded from the least extended real is the value there. -/
theorem IsFirst.fold_max (h : IsFirst f r) : Finset.univ.fold max (⊥ : EReal) f = f r :=
  le_antisymm ((Finset.fold_max_le _).mpr ⟨bot_le, fun k _ => h.1 k⟩) ((Finset.le_fold_max _).mpr (.inr ⟨r, Finset.mem_univ r, le_rfl⟩))

/-- The least of the rows at the maximum, the others counted as a number past the last row, is that place. -/
theorem IsFirst.fold_min (h : IsFirst f r) (hn : n ≤ 8192) :
    Finset.univ.fold IntOp.minsi 2147483647#32 (fun k : Fin n => if f k = f r then BitVec.ofNat 32 k.val else 1073741824#32) = BitVec.ofNat 32 r.val := by
  have hw : ∀ k : Fin n, (BitVec.ofNat 32 k.val).toInt = (k.val : ℤ) := fun k => by
    rw [BitVec.toInt_eq_toNat_cond, BitVec.toNat_ofNat]; have := k.2; omega
  apply BitVec.eq_of_toInt_eq
  rw [← Finset.fold_hom (op' := min) (m := BitVec.toInt) fun x y => SortNet.toInt_minsi x y, hw]
  apply le_antisymm
  · refine (Finset.fold_min_le _).mpr (.inr ⟨r, Finset.mem_univ r, ?_⟩)
    rw [if_pos rfl, hw]
  · refine (Finset.le_fold_min _).mpr ⟨?_, fun k _ => ?_⟩
    · have := r.2; show (r.val : ℤ) ≤ 2147483647; omega
    · split
      · next e => rw [hw]; exact_mod_cast h.2 k e
      · have := r.2; show (r.val : ℤ) ≤ 1073741824; omega

/-- Where only one place takes the greatest value, the sum of `g` over the places at it is `g` there. -/
theorem sum_at {g : Fin n → EReal} {M : EReal} (hr : f r = M) (hu : ∀ k, f k = M → k = r) :
    ∑ k, g k * (if f k = M then 1 else 0) = g r := by
  rw [Finset.sum_eq_single r (fun k _ hk => by rw [if_neg fun e => hk (hu k e), mul_zero]) fun h => absurd (Finset.mem_univ r) h, if_pos hr, mul_one]

/-- Where the count of the places at `M` is at most three halves, no two places are at it. -/
theorem eq_of_count {M : EReal} (h : ∑ k, (if f k = M then (1 : EReal) else 0) ≤ ((1.5 : ℝ) : EReal)) (h1 : f r = M) (h2 : f r' = M) : r = r' := by
  by_contra hne
  have hle : ∑ k ∈ {r, r'}, (if f k = M then (1 : EReal) else 0) ≤ ∑ k, (if f k = M then (1 : EReal) else 0) :=
    Finset.sum_le_sum_of_subset_of_nonneg (Finset.subset_univ _) fun k _ _ => by split <;> simp
  rw [Finset.sum_pair hne, if_pos h1, if_pos h2] at hle
  have h3 : ((2 : ℝ) : EReal) ≤ ((1.5 : ℝ) : EReal) := by
    refine le_trans (le_of_eq ?_) (hle.trans h)
    rw [show (2 : ℝ) = 1 + 1 by norm_num, EReal.coe_add, EReal.coe_one]
  rw [EReal.coe_le_coe_iff] at h3
  norm_num at h3

end Cert.ArgMax

end
-- ==== Proof.Value.Block.lean ====
/-
What the kernel's payloads are of one block of a device's array: the greatest value of each column, and the number of
the first row that takes it.
-/
module

public import proofs.«01_k».proof.Proof.KernelIdeal.Proto
public import proofs.«01_k».proof.Proof.Value.First
public import Idealize.ShloMosaic.Lib.Pointwise
public import Idealize.ShloMosaic.Lib.Routing.Words

@[expose] public section

noncomputable section

namespace Cert.KernelIdeal.Run

open Cert.KernelIdeal Cert.KernelIdeal.Gen Cert.ArgMax
open Idealize.ShloMosaic

/-- A column of a block. -/
abbrev colOf (x : Vec Ideal S8192x128 .f32) (l : Fin 128) : Fin 8192 → EReal := fun r => x (ix2 r l)

theorem bits_bot : Ideal.ofBits .f32 0xFF800000#32 = ⊥ := by simp [Ideal.ofBits, Ideal.ieee]
theorem bits_64 : Ideal.ofBits .f32 0x42800000#32 = ((64 : ℝ) : EReal) := by
  simp [Ideal.ofBits, Ideal.ieee]; rw [← EReal.coe_mul]; norm_num
theorem bits_half3 : Ideal.ofBits .f32 0x3FC00000#32 = ((1.5 : ℝ) : EReal) := by
  simp [Ideal.ofBits, Ideal.ieee]; rw [← EReal.coe_mul]; norm_num

variable (x : Vec Ideal S8192x128 .f32) (l : Fin 128)

/-- The column maximum. -/
theorem max_at : k0_pay76 x (ix1 l) = Finset.univ.fold max (⊥ : EReal) (colOf x l) := by
  unfold k0_pay76 k0_pay75
  pointwise
  rw [bits_bot]

theorem max_first {r : Fin 8192} (h : IsFirst (colOf x l) r) : k0_pay76 x (ix1 l) = x (ix2 r l) := (max_at x l).trans h.fold_max

theorem valRow_at : valRow x (ix4 0 0 0 l) = k0_pay76 x (ix1 l) := by
  unfold valRow k0_pay85
  pointwise

/-- The one-hot mask. -/
theorem mask_at (r : Fin 8192) : k0_pay77 x (ix2 r l) = if colOf x l r = k0_pay76 x (ix1 l) then 1 else 0 := by
  unfold k0_pay77 k0_pay75
  pointwise

/-- A small word, as a number. -/
theorem toInt_small {k : ℕ} (h : k < 2 ^ 31) : (BitVec.ofNat 32 k).toInt = (k : ℤ) := by
  rw [BitVec.toInt_eq_toNat_cond, BitVec.toNat_ofNat]; omega

/-- A small word, turned into a float. -/
theorem sitofp_small {k : ℕ} (h : k < 2 ^ 31) : (FloatOps.sitofp .f32 (BitVec.ofNat 32 k) : Ideal .f32) = ((k : ℝ) : EReal) := by
  show (((BitVec.ofNat 32 k).toInt : ℝ) : EReal) = _
  rw [toInt_small h, Int.cast_natCast]

/-- A small word is not negative. -/
theorem slt_small {k : ℕ} (h : k < 2 ^ 31) : IntOp.cmpi .slt (BitVec.ofNat 32 k) 0#32 = 0#1 := by
  show BitVec.ofBool ((BitVec.ofNat 32 k).slt 0#32) = 0#1
  rw [BitVec.slt, toInt_small h, show decide ((k : ℤ) < (0#32 : BitVec 32).toInt) = false from decide_eq_false (by simp)]
  rfl

/-- A small word other than zero is positive. -/
theorem sgt_small {k : ℕ} (h : k < 2 ^ 31) (h0 : 0 < k) : IntOp.cmpi .sgt (BitVec.ofNat 32 k) 0#32 = 1#1 := by
  show BitVec.ofBool ((0#32 : BitVec 32).slt (BitVec.ofNat 32 k)) = 1#1
  rw [BitVec.slt, toInt_small h, show decide ((0#32 : BitVec 32).toInt < (k : ℤ)) = true from decide_eq_true (by simpa using h0)]
  rfl

/-- The quotients of the row numbers by 64. -/
theorem quot_at (r : Fin 8192) : k0_pay78 (ix2 0 r) = BitVec.ofNat 32 (r.val / 64) := by
  have hr := r.2
  unfold k0_pay78
  pointwise
  rw [Routing.divsi_word _ (by omega) (by omega) (by omega), Routing.remsi_word _ (by omega) (by omega) (by omega)]
  rw [slt_small (by omega)]
  rcases Nat.eq_zero_or_pos r.val with h0 | h0
  · rw [h0]; decide
  · rw [sgt_small (by omega) h0]
    rw [show IntOp.cmpi .ne (IntOp.subi (BitVec.setWidth 32 (1#1 : BitVec 1)) (BitVec.setWidth 32 (0#1 : BitVec 1)))
      (Scalar.subi (Scalar.extui (Scalar.cmpi .sgt 64#32 0#32)) (Scalar.extui (Scalar.cmpi .slt 64#32 0#32))) = 0#1 from by decide]
    rw [show ∀ b : BitVec 1, IntOp.andi 0#1 b = 0#1 from by decide]
    rfl

/-- The first row of the one-hot product: the quotient of the row by 64. -/
theorem prod0 (y : FVec Ideal S8192x128 .f32) :
    k0_pay79 y iotaRow k0_pay78 (ix2 0 l) = ∑ r : Fin 8192, (((r.val / 64 : ℕ) : ℝ) : EReal) * y (ix2 r l) := by
  unfold k0_pay79
  pointwise
  refine Finset.sum_congr rfl fun r _ => ?_
  have hr := r.2
  rw [quot_at, sitofp_small (by omega)]

/-- The second row: the remainder. -/
theorem prod1 (y : FVec Ideal S8192x128 .f32) :
    k0_pay79 y iotaRow k0_pay78 (ix2 1 l) = ∑ r : Fin 8192, (((r.val % 64 : ℕ) : ℝ) : EReal) * y (ix2 r l) := by
  unfold k0_pay79
  pointwise
  refine Finset.sum_congr rfl fun r _ => ?_
  have hr := r.2
  rw [show Scalar.select (Scalar.cmpi .eq 64#32 0#32) 1#32 64#32 = (BitVec.ofNat 32 64 : BitVec 32) from rfl, Routing.remsi_word _ (by omega) (by omega) (by omega)]
  rw [← sitofp_small (k := r.val % 64) (by omega)]
  rw [slt_small (by omega), show IntOp.xori 0#1 (Scalar.cmpi .slt 64#32 0#32) = 0#1 from by decide,
    show ∀ b : BitVec 1, IntOp.andi 0#1 b = 0#1 from by decide]
  rfl

/-- The third row: the count. -/
theorem prod2 (y : FVec Ideal S8192x128 .f32) : k0_pay79 y iotaRow k0_pay78 (ix2 2 l) = ∑ r : Fin 8192, y (ix2 r l) := by
  unfold k0_pay79
  pointwise

/-- The greatest count of a column. -/
theorem count_at (a : FVec Ideal S8192x128 .f32) :
    k0_pay82 a iotaRow k0_pay78 = Finset.univ.fold max (⊥ : EReal) fun l : Fin 128 => ∑ r : Fin 8192, a (ix2 r l) := by
  unfold k0_pay82
  pointwise
  rw [bits_bot]
  simp only [prod2]

/-- The number of a device's first row. -/
theorem base_at (c : Fin 4) : (k0_pay80 (F := Ideal) (devW c)) = (((8192 * c.val : ℕ) : ℝ) : EReal) := by
  have e : ∀ c : Fin 4, Scalar.muli (devW c) 8192#32 = BitVec.ofNat 32 (8192 * c.val) := by decide
  have hc := c.2
  unfold k0_pay80
  show (FloatOps.sitofp .f32 (Scalar.muli (devW c) 8192#32) : Ideal .f32) = _
  rw [e, sitofp_small (by omega)]

/-- Where every column's greatest value is taken once, the one-hot product is the number of its row. -/
theorem index_onehot (c : Fin 4) {r : Fin 8192} (h : IsFirst (colOf x l) r) (hu : ∀ k, colOf x l k = x (ix2 r l) → k = r) :
    k0_pay81 (devW c) (k0_pay77 x) iotaRow k0_pay78 (ix1 l) = (((8192 * c.val + r.val : ℕ) : ℝ) : EReal) := by
  unfold k0_pay81
  pointwise
  simp only [prod0, prod1, mask_at, max_first x l h]
  rw [sum_at (f := colOf x l) (g := fun r => (((r.val / 64 : ℕ) : ℝ) : EReal)) (r := r) rfl hu,
    sum_at (f := colOf x l) (g := fun r => (((r.val % 64 : ℕ) : ℝ) : EReal)) (r := r) rfl hu, bits_64, base_at]
  show (_ * _ + _ + _ : EReal) = _
  rw [← EReal.coe_mul, ← EReal.coe_add, ← EReal.coe_add, EReal.coe_eq_coe_iff]
  norm_cast
  omega

/-- The least row at the column's greatest value is the number of its first row. -/
theorem index_least (c : Fin 4) {r : Fin 8192} (h : IsFirst (colOf x l) r) :
    k0_pay83 (devW c) (k0_pay75 x) (k0_pay76 x) (ix4 0 0 0 l) = (((8192 * c.val + r.val : ℕ) : ℝ) : EReal) := by
  have hr := r.2
  unfold k0_pay83 k0_pay75
  pointwise
  rw [max_first x l h, base_at, h.fold_min le_rfl, sitofp_small (by omega)]
  show (_ + _ : EReal) = _
  rw [← EReal.coe_add, EReal.coe_eq_coe_iff]
  norm_cast
  omega

/-- What a comparison that came out true says. -/
theorem of_ole {a b : EReal} (h : Scalar.cmpf (F := Ideal) (φ := .f32) .ole a b = 1#1) : a ≤ b := by
  by_contra hn
  refine absurd h ?_
  show BitVec.ofBool (decide (a ≤ b)) ≠ 1#1
  rw [decide_eq_false hn]
  decide

/-- Where the kernel takes the one-hot product, every column's greatest value is taken once. -/
theorem uq_once (hq : uq x = 1#1) {r : Fin 8192} (h : IsFirst (colOf x l) r) (k : Fin 8192) (hk : colOf x l k = x (ix2 r l)) : k = r := by
  unfold uq at hq
  have hle : k0_pay82 (k0_pay77 x) iotaRow k0_pay78 ≤ Ideal.ofBits .f32 0x3FC00000#32 := of_ole hq
  rw [bits_half3, count_at, Finset.fold_max_le] at hle
  have hl := hle.2 l (Finset.mem_univ l)
  simp only [mask_at, max_first x l h] at hl
  exact eq_of_count (f := colOf x l) hl hk rfl

/-- What a device computes of a block: the greatest value of each column and, as a float, the number of the first row that
    takes it, counted from the first row of the whole array. -/
theorem block_at (c : Fin 4) {r : Fin 8192} (h : IsFirst (colOf x l) r) :
    valRow x (ix4 0 0 0 l) = x (ix2 r l) ∧ idxRow (devW c) x (ix4 0 0 0 l) = (((8192 * c.val + r.val : ℕ) : ℝ) : EReal) := by
  refine ⟨(valRow_at x l).trans (max_first x l h), ?_⟩
  unfold idxRow
  split
  · next hq =>
    refine Eq.trans ?_ (index_onehot x l c h (uq_once x l hq h))
    unfold k0_pay84
    pointwise
  · exact index_least x l c h

end Cert.KernelIdeal.Run
end
-- ==== Proof.Value.Out.lean ====
/-
What the kernel's combination of the devices' rows is of the whole array: the greatest value of each column, and the
number of the first row that takes it; and that the result array ends at it.
-/
module

public import proofs.«01_k».proof.Proof.KernelIdeal.Launch
public import proofs.«01_k».proof.Proof.Value.Block

@[expose] public section

noncomputable section

namespace Cert.KernelIdeal.Run

open Cert.KernelIdeal Cert.KernelIdeal.Gen Cert.ArgMax
open Idealize.ShloMosaic Idealize.ShloMosaic.TcCoe

/-! ## The first maximum, device by device -/

section Column

variable (f : Fin 32768 → EReal)

/-- Row `8192 * s + r` of a column. -/
abbrev rowAt (s : Fin 4) (r : Fin 8192) : Fin 32768 := ⟨8192 * s.val + r.val, by have := s.2; have := r.2; omega⟩

/-- `v` and `w` are the greatest value of `f` among its first `n` rows and the number of the first row that takes it. -/
def Best (n : ℕ) (v w : EReal) : Prop :=
  ∃ k : Fin 32768, k.val < n ∧ (∀ j : Fin 32768, j.val < n → f j ≤ f k) ∧ (∀ j : Fin 32768, j.val < n → f j = f k → k ≤ j)
    ∧ v = f k ∧ w = ((k.val : ℝ) : EReal)

/-- Device 0's rows alone. -/
theorem Best.first {r : Fin 8192} (h : IsFirst (fun r => f (rowAt 0 r)) r) :
    Best f 8192 (f (rowAt 0 r)) (((8192 * (0 : Fin 4).val + r.val : ℕ) : ℝ) : EReal) := by
  have e : ∀ j : Fin 32768, (hj : j.val < 8192) → j = rowAt 0 ⟨j.val, hj⟩ := fun j hj => Fin.ext (by show j.val = 8192 * 0 + j.val; omega)
  refine ⟨rowAt 0 r, by show 8192 * 0 + r.val < _; have := r.2; omega, fun j hj => ?_, fun j hj hf => ?_, rfl, rfl⟩
  · rw [e j hj]; exact h.1 _
  · rw [e j hj] at hf
    have := h.2 _ hf
    show 8192 * 0 + r.val ≤ j.val
    have : r.val ≤ j.val := this
    omega

/-- The rows of one more device: the later value is taken only where it is greater. -/
theorem Best.step {s : Fin 4} {v w : EReal} (hb : Best f (8192 * s.val) v w) {r : Fin 8192} (h : IsFirst (fun r => f (rowAt s r)) r)
    {v' w' : EReal} (hv : v' = f (rowAt s r)) (hw : w' = (((8192 * s.val + r.val : ℕ) : ℝ) : EReal)) :
    Best f (8192 * s.val + 8192) (if v < v' then v' else v) (if v < v' then w' else w) := by
  obtain ⟨k, hk, hmax, hleast, rfl, rfl⟩ := hb
  subst hv hw
  have hr := r.2
  have e : ∀ j : Fin 32768, 8192 * s.val ≤ j.val → j.val < 8192 * s.val + 8192 → ∃ q : Fin 8192, j = rowAt s q := fun j h1 h2 =>
    ⟨⟨j.val - 8192 * s.val, by omega⟩, Fin.ext (by show j.val = 8192 * s.val + (j.val - 8192 * s.val); omega)⟩
  split
  · next hlt =>
    refine ⟨rowAt s r, by show 8192 * s.val + r.val < _; omega, fun j hj => ?_, fun j hj hf => ?_, rfl, rfl⟩
    · rcases lt_or_ge j.val (8192 * s.val) with hj' | hj'
      · exact (hmax j hj').trans hlt.le
      · obtain ⟨q, rfl⟩ := e j hj' hj; exact h.1 q
    · rcases lt_or_ge j.val (8192 * s.val) with hj' | hj'
      · exact absurd (hf ▸ hmax j hj') (not_le.mpr hlt)
      · obtain ⟨q, rfl⟩ := e j hj' hj
        have : r.val ≤ q.val := h.2 q hf
        show 8192 * s.val + r.val ≤ 8192 * s.val + q.val
        omega
  · next hle =>
    rw [not_lt] at hle
    refine ⟨k, by omega, fun j hj => ?_, fun j hj hf => ?_, rfl, rfl⟩
    · rcases lt_or_ge j.val (8192 * s.val) with hj' | hj'
      · exact hmax j hj'
      · obtain ⟨q, rfl⟩ := e j hj' hj; exact (h.1 q).trans hle
    · rcases lt_or_ge j.val (8192 * s.val) with hj' | hj'
      · exact hleast j hj' hf
      · show k.val ≤ j.val; omega

/-- All rows. -/
theorem Best.all {v w : EReal} (hb : Best f 32768 v w) {k : Fin 32768} (h : IsFirst f k) : v = f k ∧ w = ((k.val : ℝ) : EReal) := by
  obtain ⟨q, -, hmax, hleast, rfl, rfl⟩ := hb
  have e : q = k := IsFirst.unique ⟨fun j => hmax j j.2, fun j => hleast j j.2⟩ h
  rw [e]; exact ⟨rfl, rfl⟩

end Column

/-! ## The combination at an index -/

/-- A row of a slot at an index. -/
theorem sl_at (v : Vec Ideal S4x8x2x128 .f32) (s : Fin 4) (g : Fin 8) (r : Fin 2) (l : Fin 128) : sl v s g r (ix1 l) = v (ix4 s g r l) := by
  unfold sl
  pointwise

theorem combRow_at (v : Vec Ideal S4x8x2x128 .f32) (r : Fin 2) (g : Fin 8) (l : Fin 128) : combRow v r g (ix2 0 l) = comb v r g (ix1 l) := by
  unfold combRow
  pointwise

/-- The two rows of the combination are the best of the four devices'. -/
theorem comb_best (v : Vec Ideal S4x8x2x128 .f32) (g : Fin 8) (l : Fin 128) (f : Fin 32768 → EReal)
    (h : ∀ s : Fin 4, ∃ r, IsFirst (fun r => f (rowAt s r)) r ∧ v (ix4 s g 0 l) = f (rowAt s r)
      ∧ v (ix4 s g 1 l) = (((8192 * s.val + r.val : ℕ) : ℝ) : EReal)) :
    Best f 32768 (comb v 0 g (ix1 l)) (comb v 1 g (ix1 l)) := by
  have ev1 : v1 v g (ix1 l) = if v (ix4 0 g 0 l) < v (ix4 1 g 0 l) then v (ix4 1 g 0 l) else v (ix4 0 g 0 l) := by
    unfold v1 b1; pointwise; rw [sl_at, sl_at]
  have ev2 : v2 v g (ix1 l) = if v1 v g (ix1 l) < v (ix4 2 g 0 l) then v (ix4 2 g 0 l) else v1 v g (ix1 l) := by
    unfold v2 b2; pointwise; rw [sl_at]
  have e0 : comb v 0 g (ix1 l) = if v2 v g (ix1 l) < v (ix4 3 g 0 l) then v (ix4 3 g 0 l) else v2 v g (ix1 l) := by
    unfold comb b3; pointwise; rw [sl_at]
  have e1 : comb v 1 g (ix1 l) = if v2 v g (ix1 l) < v (ix4 3 g 0 l) then v (ix4 3 g 1 l) else
      if v1 v g (ix1 l) < v (ix4 2 g 0 l) then v (ix4 2 g 1 l) else
      if v (ix4 0 g 0 l) < v (ix4 1 g 0 l) then v (ix4 1 g 1 l) else v (ix4 0 g 1 l) := by
    unfold comb b3 b2 b1; pointwise; simp only [sl_at]
  obtain ⟨r0, h0, hv0, hw0⟩ := h 0
  obtain ⟨r1, h1, hv1, hw1⟩ := h 1
  obtain ⟨r2, h2, hv2, hw2⟩ := h 2
  obtain ⟨r3, h3, hv3, hw3⟩ := h 3
  have B0 := Best.first f h0
  rw [← hv0, ← hw0] at B0
  have B1 := Best.step f (s := 1) B0 h1 hv1 hw1
  rw [← ev1] at B1
  have B2 := Best.step f (s := 2) B1 h2 hv2 hw2
  rw [← ev2] at B2
  have B3 := Best.step f (s := 3) B2 h3 hv3 hw3
  rw [← e0, ← e1] at B3
  exact B3

/-! ## The kernel's result -/

variable (m : (ℓ : Loc nD τ sig) → Buf (Elt Ideal) ℓ) (ρ : Dev nD → PrngReg)

theorem idx_in : ∀ t : Fin cfg0.N, win0_0.index t (0 : Fin 2) = 0 ∧ win0_0.index t (1 : Fin 2) = t.val := by
  have h : ∀ t : Fin 8, win0_0.index (tOf t) (0 : Fin 2) = 0 ∧ win0_0.index (tOf t) (1 : Fin 2) = t.val := by decide
  exact fun t => h ⟨t.val, t.2.trans_eq N_0⟩

theorem idx_out : ∀ t : Fin cfg0.N, win0_1.index t (0 : Fin 2) = 0 ∧ win0_1.index t (1 : Fin 2) = 0 := by
  have h : ∀ t : Fin 8, win0_1.index (tOf t) (0 : Fin 2) = 0 ∧ win0_1.index (tOf t) (1 : Fin 2) = 0 := by decide
  exact fun t => h ⟨t.val, t.2.trans_eq N_0⟩

/-- A block of a device's array at an index. -/
theorem xs_at (c : Dev nD) (g : Fin 8) (r : Fin 8192) (l : Fin 128) (j : Fin 1024) (hj : j.val = 128 * g.val + l.val) :
    xs m c (tOf g) (ix2 r l) = m (c.tc.loc main_arg0) (ix2 r j) := by
  obtain ⟨e0, e1⟩ := idx_in (tOf g)
  show m (c.tc.loc main_arg0) ((win0_0.blk (tOf g)).view.emb (ix2 r l)) = _
  congr 1
  funext a; apply Fin.ext
  match a with
  | ⟨0, _⟩ => show win0_0.index (tOf g) (0 : Fin 2) * 8192 + 1 * r.val = r.val; omega
  | ⟨1, _⟩ =>
    show win0_0.index (tOf g) (1 : Fin 2) * 128 + 1 * l.val = j.val
    have : (tOf g).val = g.val := rfl
    omega

/-- What the slots hold, at an index. -/
theorem GA_at0 (s : Fin 4) (g : Fin 8) (l : Fin 128) : GA m (ix4 s g 0 l) = valRow (xs m s (tOf g)) (ix4 0 0 0 l) := if_pos rfl
theorem GA_at1 (s : Fin 4) (g : Fin 8) (l : Fin 128) : GA m (ix4 s g 1 l) = idxRow (devW s) (xs m s (tOf g)) (ix4 0 0 0 l) :=
  if_neg (by show ¬(1 : ℕ) = 0; omega)

/-- The kernel's result where `X` is the array whose blocks of rows the devices hold: in row 0 the greatest value of each
    column of `X`, in row 1, as a float, the number of the first row that takes it. -/
theorem outAt_first (X : Vec Ideal ⟨2, ![32768, 1024]⟩ .f32)
    (hX : ∀ (c : Dev nD) (r : Fin 8192) (j : Fin 1024), m (c.tc.loc main_arg0) (ix2 r j) = X (ix2 (rowAt c r) j))
    (j : Fin 1024) {k : Fin 32768} (hk : IsFirst (fun k => X (ix2 k j)) k) :
    outAt m (ix2 0 j) = X (ix2 k j) ∧ outAt m (ix2 1 j) = ((k.val : ℝ) : EReal) := by
  have hj := j.2
  let g : Fin 8 := ⟨j.val / 128, by omega⟩
  let l : Fin 128 := ⟨j.val % 128, Nat.mod_lt _ (by omega)⟩
  have hgl : j.val = 128 * g.val + l.val := by show j.val = 128 * (j.val / 128) + j.val % 128; omega
  have hb := comb_best (GA m) g l (fun k => X (ix2 k j)) fun s => by
    obtain ⟨r, hr⟩ := exists_first (colOf (xs m s (tOf g)) l) (by omega)
    have hcol : colOf (xs m s (tOf g)) l = fun r => X (ix2 (rowAt s r) j) := funext fun r => (xs_at m s g r l j hgl).trans (hX s r j)
    obtain ⟨hv, hw⟩ := block_at (xs m s (tOf g)) l s hr
    refine ⟨r, hcol ▸ hr, ?_, ?_⟩
    · exact (GA_at0 m s g l).trans (hv.trans (congrFun hcol r))
    · exact (GA_at1 m s g l).trans hw
  rw [← combRow_at, ← combRow_at] at hb
  obtain ⟨a, b⟩ := Best.all _ hb hk
  exact ⟨(outAt_of m 0 g l (ix2 0 j) rfl hgl).trans a, (outAt_of m 1 g l (ix2 1 j) rfl hgl).trans b⟩

theorem emb_out (t : Fin cfg0.N) (j : S2x1024.Idx) : ((cfg0.win 1).blk t).view.emb j = j := by
  obtain ⟨e0, e1⟩ := idx_out t
  funext a; apply Fin.ext
  match a with
  | ⟨0, _⟩ => show win0_1.index t (0 : Fin 2) * 2 + 1 * (j 0).val = (j 0).val; omega
  | ⟨1, _⟩ => show win0_1.index t (1 : Fin 2) * 1024 + 1 * (j 1).val = (j 1).val; omega

/-- The result array ends at the combination, on every device. -/
theorem final_out (c : Dev nD) : finalA m ρ c 1 = outAt m := by
  have h7 : 7 < cfg0.N := (by omega : 7 < 8).trans_eq N_0.symm
  refine (dats m ρ 0 c).arrAt_eq_of_cover 1 (outAt m) (fun t _ => ?_) fun i => ⟨⟨7, h7⟩, (flush0_1 _).mpr rfl, ?_⟩
  · show (cfg0.win 1).cut (grid0.coords t) (outAt m) = _
    funext j
    show outAt m j = outAt m (((cfg0.win 1).blk t).view.emb j)
    rw [emb_out]
  · have h := ((cfg0.win 1).blk ⟨7, h7⟩).view.emb_mem_set i
    rwa [emb_out] at h

end Cert.KernelIdeal.Run
end
-- ==== Proof.Value.Ref.lean ====
/-
What the reference's result is: the greatest value of each column, and the number of the first row that takes it.
-/
module

public import proofs.«01_k».proof.Proof.Value.RefRun
public import proofs.«01_k».proof.Proof.Value.First
public import Idealize.ShloMosaic.Lib.Pointwise

@[expose] public section

noncomputable section

namespace Cert.ReferenceIdeal.HostRun

open Cert.ReferenceIdeal Cert.ReferenceIdeal.Gen Cert.ArgMax
open Idealize.ShloMosaic

/-- A pair of a value and a row goes before another: its value is greater, or they are equal and its row is not later. -/
def Before (p q : EReal × BitVec 32) : Prop := q.1 < p.1 ∨ (q.1 = p.1 ∧ p.2.toInt ≤ q.2.toInt)

theorem Before.refl (p : EReal × BitVec 32) : Before p p := .inr ⟨rfl, le_rfl⟩

theorem Before.trans {p q r : EReal × BitVec 32} (h : Before p q) (h' : Before q r) : Before p r := by
  rcases h with h | ⟨h, l⟩ <;> rcases h' with h' | ⟨h', l'⟩
  · exact .inl (h'.trans h)
  · exact .inl (h' ▸ h)
  · exact .inl (h ▸ h')
  · exact .inr ⟨h'.trans h, l.trans l'⟩

/-- The reducer takes one of its two pairs, the one that goes before the other. -/
theorem reducer_before (a b : EReal × BitVec 32) :
    (reducer_argmax_f32_i32 (F := Ideal) a b = a ∨ reducer_argmax_f32_i32 (F := Ideal) a b = b)
      ∧ Before (reducer_argmax_f32_i32 (F := Ideal) a b) a ∧ Before (reducer_argmax_f32_i32 (F := Ideal) a b) b := by
  obtain ⟨a1, a2⟩ := a
  obtain ⟨b1, b2⟩ := b
  have key : ∀ r, reducer_argmax_f32_i32 (F := Ideal) (a1, a2) (b1, b2) = r →
      r = if b1 < a1 ∨ (a1 = b1 ∧ a2.toInt < b2.toInt) then (a1, a2) else (b1, b2) := by
    rintro r rfl
    unfold reducer_argmax_f32_i32
    have e1 : FloatOps.cmpf (F := Ideal) (φ := .f32) .ogt a1 b1 = BitVec.ofBool (decide (b1 < a1)) := rfl
    have e2 : FloatOps.cmpf (F := Ideal) (φ := .f32) .une a1 a1 = 0#1 := by
      show BitVec.ofBool (decide (a1 ≠ a1)) = 0#1
      rw [decide_eq_false fun h => h rfl]; rfl
    have e3 : FloatOps.cmpf (F := Ideal) (φ := .f32) .oeq a1 b1 = BitVec.ofBool (decide (a1 = b1)) := rfl
    have e4 : IntOp.cmpi .slt a2 b2 = BitVec.ofBool (decide (a2.toInt < b2.toInt)) := rfl
    simp only [e1, e2, e3, e4]
    rcases lt_trichotomy a1 b1 with h | h | h
    · rw [if_neg (by rintro (h' | ⟨h', -⟩); exacts [absurd h (not_lt.mpr h'.le), absurd h' h.ne]), decide_eq_false (not_lt.mpr h.le), decide_eq_false h.ne]
      cases decide (a2.toInt < b2.toInt) <;> rfl
    · subst h
      by_cases h2 : a2.toInt < b2.toInt
      · rw [if_pos (.inr ⟨rfl, h2⟩), decide_eq_false (lt_irrefl _), decide_eq_true rfl, decide_eq_true h2]; rfl
      · rw [if_neg (by rintro (h' | ⟨-, h'⟩); exacts [lt_irrefl _ h', h2 h']), decide_eq_false (lt_irrefl _), decide_eq_true rfl, decide_eq_false h2]; rfl
    · rw [if_pos (.inl h), decide_eq_true h, decide_eq_false h.ne']
      cases decide (a2.toInt < b2.toInt) <;> rfl
  rw [key _ rfl]
  split
  · next h =>
    refine ⟨.inl rfl, .refl _, ?_⟩
    rcases h with h | ⟨h, l⟩
    · exact .inl h
    · exact .inr ⟨h.symm, l.le⟩
  · next h =>
    rw [not_or, not_and, not_lt, not_lt] at h
    refine ⟨.inr rfl, ?_, .refl _⟩
    rcases h.1.lt_or_eq with l | e
    · exact .inl l
    · exact .inr ⟨e, h.2 e⟩

/-- The fold of the reducer takes one of the pairs folded, one that goes before all of them. -/
theorem fold_before (l : List (EReal × BitVec 32)) (p : EReal × BitVec 32) :
    (l.foldl (reducer_argmax_f32_i32 (F := Ideal)) p = p ∨ l.foldl (reducer_argmax_f32_i32 (F := Ideal)) p ∈ l)
      ∧ Before (l.foldl (reducer_argmax_f32_i32 (F := Ideal)) p) p
      ∧ ∀ q ∈ l, Before (l.foldl (reducer_argmax_f32_i32 (F := Ideal)) p) q := by
  induction l generalizing p with
  | nil => exact ⟨.inl rfl, .refl _, fun q h => absurd h (List.not_mem_nil)⟩
  | cons a l ih =>
    obtain ⟨h1, h2, h3⟩ := ih (reducer_argmax_f32_i32 (F := Ideal) p a)
    obtain ⟨r1, r2, r3⟩ := reducer_before p a
    refine ⟨?_, h2.trans r2, fun q hq => ?_⟩
    · rcases h1 with h1 | h1
      · rcases r1 with r1 | r1
        · exact .inl (h1.trans r1)
        · exact .inr (List.mem_cons.mpr (.inl (h1.trans r1)))
      · exact .inr (List.mem_cons_of_mem _ h1)
    · rcases List.mem_cons.mp hq with rfl | hq
      · exact h2.trans r3
      · exact h3 q hq

variable (X : Vec Ideal S32768x1024 .f32) (j : Fin 1024)

theorem toInt_row (k : Fin 32768) : (BitVec.ofNat 32 k.val).toInt = (k.val : ℤ) := by
  have := k.2
  rw [BitVec.toInt_eq_toNat_cond, BitVec.toNat_ofNat]; omega

/-- The index a reduction over the rows keeps is the column. -/
theorem drop_iff (i : S32768x1024.Idx) : reducesTo_S32768x1024_S1024_d0.drop i = ix1 j ↔ i = ix2 (i 0) j := by
  have e : (reducesTo_S32768x1024_S1024_d0.drop i 0 : ℕ) = i 1 := Shape.ReducesTo.drop_apply_val_of_eq _ i 0 1
  constructor
  · intro h
    rw [h] at e
    funext a; apply Fin.ext
    match a with
    | ⟨0, _⟩ => rfl
    | ⟨1, _⟩ => exact e.symm
  · intro h
    funext a; apply Fin.ext
    match a with
    | ⟨0, _⟩ =>
      refine e.trans ?_
      rw [h]; rfl

/-- Those pairs are the ones at the indices that the reduction keeps there. -/
theorem mem_fiber {s t : Shape} {axes : List (Fin s.rank)} {α β : Type} (x : s.Idx → α) (y : s.Idx → β) (h : s.ReducesTo axes t) (j : t.Idx)
    (q : α × β) : q ∈ Host.argReduceFiber x y h j ↔ ∃ i, h.drop i = j ∧ q = (x i, y i) := by
  unfold Host.argReduceFiber
  rw [List.mem_map]
  constructor
  · rintro ⟨n, hn, rfl⟩
    exact ⟨_, of_decide_eq_true (List.mem_filter.mp hn).2, rfl⟩
  · rintro ⟨i, hi, rfl⟩
    exact ⟨s.rowMajor i, List.mem_filter.mpr ⟨List.mem_finRange _, by rw [Equiv.symm_apply_apply]; exact decide_eq_true hi⟩, by rw [Equiv.symm_apply_apply]⟩

/-- The second result of the host's arg-max is that of the fold of its reducer over them, in some order. -/
theorem argReduce_snd {s t u : Shape} {axes : List (Fin s.rank)} {φ : FTy} {β : Type} (f : Ideal φ × β → Ideal φ × β → Ideal φ × β)
    (x : FVec Ideal s φ) (y : s.Idx → β) (ix : u.Idx → Ideal φ) (iy : u.Idx → β) (h : s.ReducesTo axes t) (hu : 0 < u.numel) (j : t.Idx)
    {vi : Ideal φ} {ni : β} (hv : ix (Shape.Idx.first hu) = vi) (hn : iy (Shape.Idx.first hu) = ni)
    (V : t.Idx → β) (hV : V = fun j => (Host.argReduce f x y ix iy h hu j).2) :
    ∃ l : List (Ideal φ × β), (∀ q, q ∈ l ↔ ∃ i, h.drop i = j ∧ q = (x i, y i)) ∧ V j = (l.foldl f (vi, ni)).2 :=
  ⟨Host.argReduceFiber x y h j, mem_fiber x y h j, by subst hV; dsimp only; rw [Ideal.argReduce_eq_reduce2, Host.reduce2_eq_foldl_fiber, hv, hn]⟩

/-- The fold over the pairs of a family of values and their numbers has the number of the first greatest one. -/
theorem fold_first {f : Fin 32768 → EReal} {k : Fin 32768} (hk : IsFirst f k) (l : List (EReal × BitVec 32))
    (hl : ∀ q, q ∈ l ↔ ∃ r : Fin 32768, q = (f r, BitVec.ofNat 32 r.val)) :
    (l.foldl (reducer_argmax_f32_i32 (F := Ideal)) (⊥, 0#32)).2 = BitVec.ofNat 32 k.val := by
  obtain ⟨h1, h2, h3⟩ := fold_before l (⊥, 0#32)
  generalize l.foldl (reducer_argmax_f32_i32 (F := Ideal)) (⊥, 0#32) = p at h1 h2 h3
  have hb := h3 _ ((hl _).mpr ⟨k, rfl⟩)
  rcases h1 with rfl | hp
  · have e : f k = ⊥ ∧ (0#32 : BitVec 32).toInt ≤ (BitVec.ofNat 32 k.val).toInt := by
      rcases hb with hb | hb
      · exact absurd hb not_lt_bot
      · exact hb
    have h0 : k ≤ 0 := hk.2 0 (le_bot_iff.mp ((hk.1 0).trans e.1.le) |>.trans e.1.symm)
    rw [show k = 0 from le_antisymm h0 (Fin.zero_le _)]
    rfl
  · obtain ⟨r, rfl⟩ := (hl p).mp hp
    rcases hb with hb | ⟨e, hle⟩
    · exact absurd hb (not_lt.mpr (hk.1 r))
    · have hle : (BitVec.ofNat 32 r.val).toInt ≤ (BitVec.ofNat 32 k.val).toInt := hle
      rw [toInt_row, toInt_row] at hle
      have hkr : k ≤ r := hk.2 r (show f r = f k from e.symm)
      have : r = k := le_antisymm (by exact_mod_cast hle) hkr
      rw [this]

theorem bits_bot : Ideal.ofBits .f32 0xFF800000#32 = ⊥ := by simp [Ideal.ofBits, Ideal.ieee]

/-- The reference's row numbers. -/
theorem argVec_at {k : Fin 32768} (hk : IsFirst (fun k => X (ix2 k j)) k) : argVec X (ix1 j) = BitVec.ofNat 32 k.val := by
  obtain ⟨l, hl, e⟩ := argReduce_snd (reducer_argmax_f32_i32 (F := Ideal)) X (iotaInDim S32768x1024 32 0) (constant S_ .f32 0xFF800000#32)
    (constantI S_ 32 0#32) reducesTo_S32768x1024_S1024_d0 h_S_ (ix1 j) (vi := (⊥ : EReal)) (ni := 0#32) bits_bot rfl (argVec X) rfl
  refine e.trans (fold_first hk l fun q => (hl q).trans ?_)
  constructor
  · rintro ⟨i, hi, rfl⟩
    exact ⟨i 0, Prod.ext (congrArg X ((drop_iff j i).mp hi)) rfl⟩
  · rintro ⟨r, rfl⟩
    exact ⟨ix2 r j, (drop_iff j _).mpr rfl, rfl⟩

/-- The reference's maxima. -/
theorem maxVec_at {k : Fin 32768} (hk : IsFirst (fun k => X (ix2 k j)) k) : maxVec X (ix1 j) = X (ix2 k j) := by
  unfold maxVec
  pointwise
  rw [bits_bot]
  exact hk.fold_max

/-- The reference's result: in row 0 the greatest value of each column, in row 1, as a float, the number of the first row
    that takes it. -/
theorem refOut_first {k : Fin 32768} (hk : IsFirst (fun k => X (ix2 k j)) k) :
    refOut X (ix2 0 j) = X (ix2 k j) ∧ refOut X (ix2 1 j) = ((k.val : ℝ) : EReal) := by
  constructor
  · unfold refOut
    pointwise
    exact maxVec_at X j hk
  · unfold refOut
    pointwise
    rw [argVec_at X j hk]
    show (((BitVec.ofNat 32 k.val).toInt : ℝ) : EReal) = _
    rw [toInt_row, Int.cast_natCast]

end Cert.ReferenceIdeal.HostRun
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Launch
public import proofs.«01_k».proof.Proof.KernelIdeal.Launch
public import proofs.«01_k».proof.Proof.Value.RefRun
public import proofs.«01_k».proof.Proof.Value.Out
public import proofs.«01_k».proof.Proof.Value.Ref
public import Idealize.ShloMosaic.Adequacy
public import Idealize.ShloMosaic.Init

@[expose] public section

noncomputable section

namespace Cert.Proof

open Idealize.ShloMosaic Idealize.SL.Sem Cert.Kernel

/-- The kernel runs at bit patterns, leaves its argument and every counter as it found them. -/
theorem frame_kernel : Cert.quiescent_Kernel := fun m g _ =>
  (θ_run Cert.Kernel.defs _ _).mono (fun _ h => ⟨fun c => (h.1 c (0 : Fin 2)).trans (Cert.Kernel.Run.finalA_arg m g c), h.2⟩)
    (Cert.Kernel.Run.run_main (F := Bits) m g)

/-- The kernel runs at extended reals, leaves its argument and every counter as it found them. -/
theorem frame_kernelIdeal : Cert.quiescent_KernelIdeal := fun m g _ =>
  (θ_run Cert.KernelIdeal.defs _ _).mono (fun _ h => ⟨fun c => (h.1 c (0 : Fin 2)).trans (Cert.KernelIdeal.Run.finalA_arg m g c), h.2⟩)
    (Cert.KernelIdeal.Run.run_main (F := Ideal) m g)

/-- The reference runs, leaves its argument and every counter as it found them. -/
theorem frame_referenceIdeal : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.HostRun.run_ref (F := Ideal) m g)

/-- A block of rows of the whole array, at an index. -/
theorem block_at (X : Vec Ideal ⟨2, ![32768, 1024]⟩ .f32) (c : Fin 4) (r : Fin 8192) (j : Fin 1024) :
    (Layout.block ⟨2, ![8192, 1024]⟩ ⟨2, ![32768, 1024]⟩ 0 4 c X) (ix2 r j) = X (ix2 (Cert.KernelIdeal.Run.rowAt c r) j) := by
  rw [Layout.block_apply]
  congr 1
  funext a; apply Fin.ext
  match a with
  | ⟨0, _⟩ => show c.val * 8192 + r.val = 8192 * c.val + r.val; omega
  | ⟨1, _⟩ => rfl

/-- Where the devices hold the blocks of rows of `X`, the kernel's result is the reference's: column by column, the greatest
    value and the number of the first row that takes it. -/
theorem out_eq (m : (ℓ : Loc Cert.KernelIdeal.nD Cert.KernelIdeal.τ Cert.KernelIdeal.sig) → Buf (Elt Ideal) ℓ)
    (X : Vec Ideal ⟨2, ![32768, 1024]⟩ .f32)
    (hX : ∀ (c : Dev Cert.KernelIdeal.nD) (r : Fin 8192) (j : Fin 1024),
      m ((c.tc : Thread Cert.KernelIdeal.nD Cert.KernelIdeal.τ).loc Cert.KernelIdeal.main_arg0) (ix2 r j) = X (ix2 (Cert.KernelIdeal.Run.rowAt c r) j)) :
    Cert.KernelIdeal.Run.outAt m = Cert.ReferenceIdeal.HostRun.refOut X := by
  funext i
  obtain ⟨r, j, rfl⟩ : ∃ (r : Fin 2) (j : Fin 1024), i = ix2 r j := ⟨i 0, i 1, by
    funext a
    match a with
    | ⟨0, _⟩ => rfl
    | ⟨1, _⟩ => rfl⟩
  obtain ⟨k, hk⟩ := Cert.ArgMax.exists_first (fun k : Fin 32768 => X (ix2 k j)) (Nat.zero_lt_succ _)
  have h1 := Cert.KernelIdeal.Run.outAt_first m X hX j hk
  have h2 := Cert.ReferenceIdeal.HostRun.refOut_first X j hk
  match r with
  | 0 => exact h1.1.trans h2.1.symm
  | 1 => exact h1.2.trans h2.2.symm

/-- At extended reals the kernel and the reference end with the same result, on every device. -/
theorem algebraic : Cert.algebraic_KernelIdeal_ReferenceIdeal := fun m g m' g' _ hblk => by
  have e := out_eq m (m' (((0 : Dev Cert.ReferenceIdeal.nD).tc : Thread Cert.ReferenceIdeal.nD Cert.ReferenceIdeal.τ).loc Cert.ReferenceIdeal.main_arg0))
    fun c r j => (congrFun (hblk c) (ix2 r j)).trans (block_at _ c r j)
  refine ⟨Cert.ReferenceIdeal.HostRun.refOut (m' (((0 : Dev Cert.ReferenceIdeal.nD).tc : Thread Cert.ReferenceIdeal.nD Cert.ReferenceIdeal.τ).loc Cert.ReferenceIdeal.main_arg0)),
    (θ_run Cert.KernelIdeal.defs _ _).mono (fun _ h c =>
    ⟨((h.1 c (1 : Fin 2)).trans (Cert.KernelIdeal.Run.final_out m g c)).trans e, (h.1 c (0 : Fin 2)).trans (Cert.KernelIdeal.Run.finalA_arg m g c)⟩)
    (Cert.KernelIdeal.Run.run_main (F := Ideal) m g), ?_⟩
  exact (θ_run Cert.ReferenceIdeal.defs _ _).mono (fun _ h => h 0) (Cert.ReferenceIdeal.HostRun.run_ref (F := Ideal) m' g')

/-- The claims together. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
